-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S64x2x256 Cert.KernelIdeal.S64x1x256
  ∧ IdealRules.bf16_pair.PackStatement Cert.KernelIdeal.S64x256
  ∧ IdealRules.bf16_pair.Statement Cert.KernelIdeal.S64x2x256 Cert.KernelIdeal.S64x1x256
  ∧ IdealRules.bf16_pair.Statement Cert.KernelIdeal.S1x2x128 Cert.KernelIdeal.S1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x4096 : Shape := ⟨3, ![1, 128, 4096]⟩
abbrev S11008x2048 : Shape := ⟨2, ![11008, 2048]⟩
abbrev S11008x64 : Shape := ⟨2, ![11008, 64]⟩
abbrev S2752 : Shape := ⟨1, ![2752]⟩
abbrev S_ : Shape := ⟨0, ![]⟩
abbrev S2x32x128 : Shape := ⟨3, ![2, 32, 128]⟩
abbrev S256x256 : Shape := ⟨2, ![256, 256]⟩
abbrev S43x1x64 : Shape := ⟨3, ![43, 1, 64]⟩
abbrev S1 : Shape := ⟨1, ![1]⟩
abbrev S1x128x11008 : Shape := ⟨3, ![1, 128, 11008]⟩
abbrev S1x128x86 : Shape := ⟨3, ![1, 128, 86]⟩
abbrev S256x2048 : Shape := ⟨2, ![256, 2048]⟩
abbrev S256x64 : Shape := ⟨2, ![256, 64]⟩
abbrev S1x1x64 : Shape := ⟨3, ![1, 1, 64]⟩
abbrev S1x128x256 : Shape := ⟨3, ![1, 128, 256]⟩
abbrev S128x4096 : Shape := ⟨2, ![128, 4096]⟩
abbrev S64x256 : Shape := ⟨2, ![64, 256]⟩
abbrev S128x128 : Shape := ⟨2, ![128, 128]⟩
abbrev S128x256 : Shape := ⟨2, ![128, 256]⟩
abbrev S8x128 : Shape := ⟨2, ![8, 128]⟩
abbrev S1x64 : Shape := ⟨2, ![1, 64]⟩
abbrev S1x128 : Shape := ⟨2, ![1, 128]⟩
abbrev S8x128x1 : Shape := ⟨3, ![8, 128, 1]⟩
abbrev S8x256 : Shape := ⟨2, ![8, 256]⟩
abbrev S1x256 : Shape := ⟨2, ![1, 256]⟩
abbrev S1x32x128 : Shape := ⟨3, ![1, 32, 128]⟩
abbrev S32x128 : Shape := ⟨2, ![32, 128]⟩
abbrev S32x32 : Shape := ⟨2, ![32, 32]⟩
abbrev S16x128 : Shape := ⟨2, ![16, 128]⟩
abbrev S32x128x1 : Shape := ⟨3, ![32, 128, 1]⟩
abbrev S256x128 : Shape := ⟨2, ![256, 128]⟩
abbrev S128 : Shape := ⟨1, ![128]⟩
abbrev S128x1 : Shape := ⟨2, ![128, 1]⟩
abbrev S1x128x128 : Shape := ⟨3, ![1, 128, 128]⟩
abbrev S128x86 : Shape := ⟨2, ![128, 86]⟩

abbrev nBuf : Space → Nat
  | .hbm => 154
  | .vmem => 15
  | .smem => 1
  | _ => 0

abbrev hbmTy0_0 (i : Nat) : BufTy := match i % 128 with
  | 0 => ⟨S1x128x4096, .bf16⟩
  | 1 => ⟨S11008x2048, .i8⟩
  | 2 => ⟨S11008x64, .i8⟩
  | 3 => ⟨S2752, .f32⟩
  | 4 => ⟨S_, .f32⟩
  | 5 => ⟨S2x32x128, .i8⟩
  | 6 => ⟨S256x256, .i32⟩
  | 7 => ⟨S256x256, .i32⟩
  | 8 => ⟨S_, .i32⟩
  | 9 => ⟨S_, .i32⟩
  | 10 => ⟨S256x256, .i32⟩
  | 11 => ⟨S256x256, .i32⟩
  | 12 => ⟨S256x256, .i32⟩
  | 13 => ⟨S_, .i32⟩
  | 14 => ⟨S256x256, .i32⟩
  | 15 => ⟨S256x256, .i1⟩
  | 16 => ⟨S256x256, .i32⟩
  | 17 => ⟨S256x256, .i32⟩
  | 18 => ⟨S_, .i32⟩
  | 19 => ⟨S256x256, .i32⟩
  | 20 => ⟨S256x256, .i1⟩
  | 21 => ⟨S256x256, .i1⟩
  | 22 => ⟨S_, .i32⟩
  | 23 => ⟨S256x256, .i32⟩
  | 24 => ⟨S256x256, .i32⟩
  | 25 => ⟨S256x256, .i32⟩
  | 26 => ⟨S_, .i32⟩
  | 27 => ⟨S256x256, .i32⟩
  | 28 => ⟨S256x256, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S256x256, .i32⟩
  | 36 => ⟨S256x256, .i32⟩
  | 37 => ⟨S_, .i32⟩
  | 38 => ⟨S256x256, .i32⟩
  | 39 => ⟨S256x256, .i1⟩
  | 40 => ⟨S_, .i32⟩
  | 41 => ⟨S256x256, .i32⟩
  | 42 => ⟨S256x256, .i1⟩
  | 43 => ⟨S_, .i32⟩
  | 44 => ⟨S_, .i1⟩
  | 45 => ⟨S256x256, .i1⟩
  | 46 => ⟨S256x256, .i1⟩
  | 47 => ⟨S256x256, .i1⟩
  | 48 => ⟨S256x256, .i32⟩
  | 49 => ⟨S256x256, .i32⟩
  | 50 => ⟨S256x256, .i32⟩
  | 51 => ⟨S_, .i32⟩
  | 52 => ⟨S256x256, .i32⟩
  | 53 => ⟨S256x256, .i32⟩
  | 54 => ⟨S256x256, .i32⟩
  | 55 => ⟨S_, .i32⟩
  | 56 => ⟨S_, .i32⟩
  | 57 => ⟨S256x256, .i32⟩
  | 58 => ⟨S256x256, .i32⟩
  | 59 => ⟨S256x256, .i32⟩
  | 60 => ⟨S_, .i32⟩
  | 61 => ⟨S256x256, .i32⟩
  | 62 => ⟨S256x256, .i1⟩
  | 63 => ⟨S256x256, .i32⟩
  | 64 => ⟨S256x256, .i32⟩
  | 65 => ⟨S_, .i32⟩
  | 66 => ⟨S256x256, .i32⟩
  | 67 => ⟨S256x256, .i1⟩
  | 68 => ⟨S256x256, .i1⟩
  | 69 => ⟨S_, .i32⟩
  | 70 => ⟨S256x256, .i32⟩
  | 71 => ⟨S256x256, .i32⟩
  | 72 => ⟨S256x256, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S256x256, .i32⟩
  | 80 => ⟨S256x256, .i32⟩
  | 81 => ⟨S_, .i32⟩
  | 82 => ⟨S256x256, .i32⟩
  | 83 => ⟨S256x256, .i1⟩
  | 84 => ⟨S_, .i32⟩
  | 85 => ⟨S256x256, .i32⟩
  | 86 => ⟨S256x256, .i1⟩
  | 87 => ⟨S_, .i32⟩
  | 88 => ⟨S_, .i1⟩
  | 89 => ⟨S256x256, .i1⟩
  | 90 => ⟨S256x256, .i1⟩
  | 91 => ⟨S256x256, .i1⟩
  | 92 => ⟨S256x256, .i32⟩
  | 93 => ⟨S256x256, .i32⟩
  | 94 => ⟨S256x256, .i32⟩
  | 95 => ⟨S256x256, .i32⟩
  | 96 => ⟨S_, .i32⟩
  | 97 => ⟨S256x256, .i32⟩
  | 98 => ⟨S256x256, .i32⟩
  | 99 => ⟨S_, .i32⟩
  | 100 => ⟨S256x256, .i32⟩
  | 101 => ⟨S256x256, .i32⟩
  | 102 => ⟨S_, .i32⟩
  | 103 => ⟨S_, .i32⟩
  | 104 => ⟨S256x256, .i32⟩
  | 105 => ⟨S256x256, .i32⟩
  | 106 => ⟨S256x256, .i32⟩
  | 107 => ⟨S_, .i32⟩
  | 108 => ⟨S256x256, .i32⟩
  | 109 => ⟨S256x256, .i1⟩
  | 110 => ⟨S256x256, .i32⟩
  | 111 => ⟨S256x256, .i32⟩
  | 112 => ⟨S_, .i32⟩
  | 113 => ⟨S256x256, .i32⟩
  | 114 => ⟨S256x256, .i1⟩
  | 115 => ⟨S256x256, .i1⟩
  | 116 => ⟨S_, .i32⟩
  | 117 => ⟨S256x256, .i32⟩
  | 118 => ⟨S256x256, .i32⟩
  | 119 => ⟨S256x256, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S256x256, .i32⟩
  | 127 => ⟨S256x256, .i32⟩
  | _ => ⟨S1x128x4096, .bf16⟩

abbrev hbmTy0_1 (i : Nat) : BufTy := match i % 128 with
  | 0 => ⟨S_, .i32⟩
  | 1 => ⟨S256x256, .i32⟩
  | 2 => ⟨S256x256, .i1⟩
  | 3 => ⟨S_, .i32⟩
  | 4 => ⟨S256x256, .i32⟩
  | 5 => ⟨S256x256, .i1⟩
  | 6 => ⟨S_, .i32⟩
  | 7 => ⟨S_, .i1⟩
  | 8 => ⟨S256x256, .i1⟩
  | 9 => ⟨S256x256, .i1⟩
  | 10 => ⟨S256x256, .i1⟩
  | 11 => ⟨S256x256, .i32⟩
  | 12 => ⟨S256x256, .i32⟩
  | 13 => ⟨S256x256, .i32⟩
  | 14 => ⟨S256x256, .i32⟩
  | 15 => ⟨S256x256, .i1⟩
  | 16 => ⟨S_, .f32⟩
  | 17 => ⟨S_, .f32⟩
  | 18 => ⟨S256x256, .f32⟩
  | 19 => ⟨S256x256, .f32⟩
  | 20 => ⟨S256x256, .f32⟩
  | 21 => ⟨S256x256, .bf16⟩
  | 22 => ⟨S43x1x64, .f32⟩
  | 23 => ⟨S1, .f32⟩
  | 24 => ⟨S1x128x11008, .fp8e4m3⟩
  | 25 => ⟨S1x128x86, .f32⟩
  | _ => ⟨S1x128x4096, .bf16⟩

abbrev hbmTy (i : Nat) : BufTy := match i / 128 with
  | 0 => hbmTy0_0 i
  | 1 => hbmTy0_1 i
  | _ => ⟨S1x128x4096, .bf16⟩

abbrev bufTy : (tb : Table) → Fin (tcTables nBuf tb) → BufTy
  | .hbm, ⟨i, _⟩ => hbmTy i
  | .local _ .vmem, ⟨0, _⟩ => ⟨S1x128x4096, .bf16⟩
  | .local _ .vmem, ⟨1, _⟩ => ⟨S256x2048, .i8⟩
  | .local _ .vmem, ⟨2, _⟩ => ⟨S256x2048, .i8⟩
  | .local _ .vmem, ⟨3, _⟩ => ⟨S256x64, .i8⟩
  | .local _ .vmem, ⟨4, _⟩ => ⟨S256x64, .i8⟩
  | .local _ .vmem, ⟨5, _⟩ => ⟨S1x1x64, .f32⟩
  | .local _ .vmem, ⟨6, _⟩ => ⟨S1x1x64, .f32⟩
  | .local _ .vmem, ⟨7, _⟩ => ⟨S2x32x128, .i8⟩
  | .local _ .vmem, ⟨8, _⟩ => ⟨S256x256, .bf16⟩
  | .local _ .vmem, ⟨9, _⟩ => ⟨S1x128x256, .fp8e4m3⟩
  | .local _ .vmem, ⟨10, _⟩ => ⟨S1x128x256, .fp8e4m3⟩
  | .local _ .vmem, ⟨11, _⟩ => ⟨S1x128x86, .f32⟩
  | .local _ .vmem, ⟨12, _⟩ => ⟨S128x4096, .bf16⟩
  | .local _ .vmem, ⟨13, _⟩ => ⟨S64x256, .i32⟩
  | .local _ .vmem, ⟨14, _⟩ => ⟨S128x128, .f32⟩
  | .local _ .smem, ⟨0, _⟩ => ⟨S1, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_v4 : Ref sig .tc := ⟨.hbm, 28, rfl⟩
abbrev main_c_2 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v5 : Ref sig .tc := ⟨.hbm, 50, rfl⟩
abbrev main_c_3 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_c_4 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v9 : Ref sig .tc := ⟨.hbm, 72, rfl⟩
abbrev main_c_5 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v10 : Ref sig .tc := ⟨.hbm, 94, rfl⟩
abbrev main_v11 : Ref sig .tc := ⟨.hbm, 95, rfl⟩
abbrev main_c_6 : Ref sig .tc := ⟨.hbm, 96, rfl⟩
abbrev main_v12 : Ref sig .tc := ⟨.hbm, 97, rfl⟩
abbrev main_v13 : Ref sig .tc := ⟨.hbm, 98, rfl⟩
abbrev main_c_7 : Ref sig .tc := ⟨.hbm, 99, rfl⟩
abbrev main_v14 : Ref sig .tc := ⟨.hbm, 100, rfl⟩
abbrev main_v15 : Ref sig .tc := ⟨.hbm, 101, rfl⟩
abbrev main_c_8 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_c : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_0 : Ref sig .tc := ⟨.hbm, 116, rfl⟩
abbrev main_call4_v12 : Ref sig .tc := ⟨.hbm, 117, rfl⟩
abbrev main_call4_v13 : Ref sig .tc := ⟨.hbm, 118, rfl⟩
abbrev main_v16 : Ref sig .tc := ⟨.hbm, 119, rfl⟩
abbrev main_c_9 : Ref sig .tc := ⟨.hbm, 120, rfl⟩
abbrev main_call5_v0 : Ref sig .tc := ⟨.hbm, 121, rfl⟩
abbrev main_call5_c : Ref sig .tc := ⟨.hbm, 122, rfl⟩
abbrev main_call5_v1 : Ref sig .tc := ⟨.hbm, 123, rfl⟩
abbrev main_call5_c_0 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_call5_c_1 : Ref sig .tc := ⟨.hbm, 128, rfl⟩
abbrev main_call5_v5 : Ref sig .tc := ⟨.hbm, 129, rfl⟩
abbrev main_call5_v6 : Ref sig .tc := ⟨.hbm, 130, rfl⟩
abbrev main_call5_c_2 : Ref sig .tc := ⟨.hbm, 131, rfl⟩
abbrev main_call5_v7 : Ref sig .tc := ⟨.hbm, 132, rfl⟩
abbrev main_call5_v8 : Ref sig .tc := ⟨.hbm, 133, rfl⟩
abbrev main_call5_c_3 : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_v12 : Ref sig .tc := ⟨.hbm, 138, rfl⟩
abbrev main_call5_v13 : Ref sig .tc := ⟨.hbm, 139, rfl⟩
abbrev main_call5_v14 : Ref sig .tc := ⟨.hbm, 140, rfl⟩
abbrev main_v17 : Ref sig .tc := ⟨.hbm, 141, rfl⟩
abbrev main_v18 : Ref sig .tc := ⟨.hbm, 142, rfl⟩
abbrev main_v19 : Ref sig .tc := ⟨.hbm, 143, rfl⟩
abbrev main_cst : Ref sig .tc := ⟨.hbm, 144, rfl⟩
abbrev main_cst_10 : Ref sig .tc := ⟨.hbm, 145, rfl⟩
abbrev main_call6_v0 : Ref sig .tc := ⟨.hbm, 146, rfl⟩
abbrev main_call6_v1 : Ref sig .tc := ⟨.hbm, 147, rfl⟩
abbrev main_v20 : Ref sig .tc := ⟨.hbm, 148, rfl⟩
abbrev main_v21 : Ref sig .tc := ⟨.hbm, 149, rfl⟩
abbrev main_v22 : Ref sig .tc := ⟨.hbm, 150, rfl⟩
abbrev main_v23 : Ref sig .tc := ⟨.hbm, 151, rfl⟩
abbrev main_v24_0 : Ref sig .tc := ⟨.hbm, 152, rfl⟩
abbrev main_v24_1 : Ref sig .tc := ⟨.hbm, 153, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg4_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [BitOps F]

abbrev grid0 : Pipeline.Grid := ⟨1, ![43], ![false]⟩

def k0_cond2 (i : grid0.Coords) : BitVec 1 :=
  let arg0 : BitVec 32 := BitVec.ofNat 32 (i 0).val
  let c42_i32_r0 : BitVec 32 := 42#32
  let v9509_r0 : BitVec 1 := Scalar.cmpi .eq arg0 c42_i32_r0
  let v9510_r0 : BitVec 32 := Scalar.extui v9509_r0
  let c0_i32_1773_r0 : BitVec 32 := 0#32
  let v9511_r0 : BitVec 1 := Scalar.cmpi .ne v9510_r0 c0_i32_1773_r0
  v9511_r0

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128x86 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
abbrev S64x2x256 : Shape := ⟨3, ![64, 2, 256]⟩
abbrev S64x1x256 : Shape := ⟨3, ![64, 1, 256]⟩
abbrev S1x2x128 : Shape := ⟨3, ![1, 2, 128]⟩
abbrev S1x1x128 : Shape := ⟨3, ![1, 1, 128]⟩
  | .local _ .vmem, ⟨13, _⟩ => ⟨S64x2x256, .bf16⟩
variable {F : FTy → Type} [FloatOps F]
-- ==== ReferenceIdeal.lean ====
abbrev S1x128x4096 : Shape := ⟨3, ![1, 128, 4096]⟩
abbrev S11008x2048 : Shape := ⟨2, ![11008, 2048]⟩
abbrev S11008x64 : Shape := ⟨2, ![11008, 64]⟩
abbrev S2752 : Shape := ⟨1, ![2752]⟩
abbrev S_ : Shape := ⟨0, ![]⟩
abbrev S254 : Shape := ⟨1, ![254]⟩
abbrev S2752x256 : Shape := ⟨2, ![2752, 256]⟩
abbrev S2752x1 : Shape := ⟨2, ![2752, 1]⟩
abbrev S1x128x2048 : Shape := ⟨3, ![1, 128, 2048]⟩
abbrev S11008x64x32 : Shape := ⟨3, ![11008, 64, 32]⟩
abbrev S11008x64x1 : Shape := ⟨3, ![11008, 64, 1]⟩
abbrev S1x128x11008 : Shape := ⟨3, ![1, 128, 11008]⟩
abbrev S1x128x86x128 : Shape := ⟨4, ![1, 128, 86, 128]⟩
abbrev S1x128x86 : Shape := ⟨3, ![1, 128, 86]⟩
abbrev S1x128x86x1 : Shape := ⟨4, ![1, 128, 86, 1]⟩
abbrev S1x1x1x254 : Shape := ⟨4, ![1, 1, 1, 254]⟩
abbrev S1x128x86x254 : Shape := ⟨4, ![1, 128, 86, 254]⟩

abbrev nBuf : Space → Nat
  | .hbm => 225
  | .vmem => 0
  | .smem => 0
  | _ => 0

abbrev hbmTy0_0 (i : Nat) : BufTy := match i % 128 with
  | 0 => ⟨S1x128x4096, .bf16⟩
  | 1 => ⟨S11008x2048, .i8⟩
  | 2 => ⟨S11008x64, .i8⟩
  | 3 => ⟨S2752, .f32⟩
  | 4 => ⟨S_, .f32⟩
  | 5 => ⟨S254, .f32⟩
  | 6 => ⟨S2752x256, .i8⟩
  | 7 => ⟨S2752x256, .i32⟩
  | 8 => ⟨S2752x256, .f32⟩
  | 9 => ⟨S2752x1, .f32⟩
  | 10 => ⟨S2752x256, .f32⟩
  | 11 => ⟨S2752x256, .f32⟩
  | 12 => ⟨S2752x256, .f32⟩
  | 13 => ⟨S2752x256, .f32⟩
  | 14 => ⟨S11008x64, .f32⟩
  | 15 => ⟨S11008x64, .bf16⟩
  | 16 => ⟨S11008x2048, .i32⟩
  | 17 => ⟨S_, .i32⟩
  | 18 => ⟨S11008x2048, .i32⟩
  | 19 => ⟨S11008x2048, .i32⟩
  | 20 => ⟨S_, .i32⟩
  | 21 => ⟨S11008x2048, .i32⟩
  | 22 => ⟨S11008x2048, .i32⟩
  | 23 => ⟨S_, .i32⟩
  | 24 => ⟨S11008x2048, .i32⟩
  | 25 => ⟨S11008x2048, .i32⟩
  | 26 => ⟨S1x128x2048, .bf16⟩
  | 27 => ⟨S_, .i32⟩
  | 28 => ⟨S11008x2048, .i32⟩
  | 29 => ⟨S11008x2048, .i32⟩
  | 30 => ⟨S_, .i32⟩
  | 31 => ⟨S11008x2048, .i32⟩
  | 32 => ⟨S11008x2048, .i1⟩
  | 33 => ⟨S_, .i32⟩
  | 34 => ⟨S11008x2048, .i32⟩
  | 35 => ⟨S11008x2048, .i32⟩
  | 36 => ⟨S_, .i32⟩
  | 37 => ⟨S11008x2048, .i32⟩
  | 38 => ⟨S11008x2048, .i1⟩
  | 39 => ⟨S_, .i32⟩
  | 40 => ⟨S11008x2048, .i32⟩
  | 41 => ⟨S11008x2048, .i32⟩
  | 42 => ⟨S_, .i32⟩
  | 43 => ⟨S11008x2048, .i32⟩
  | 44 => ⟨S11008x2048, .i1⟩
  | 45 => ⟨S_, .i32⟩
  | 46 => ⟨S11008x2048, .i32⟩
  | 47 => ⟨S11008x2048, .i32⟩
  | 48 => ⟨S_, .i32⟩
  | 49 => ⟨S11008x2048, .i32⟩
  | 50 => ⟨S11008x2048, .i1⟩
  | 51 => ⟨S_, .bf16⟩
  | 52 => ⟨S_, .bf16⟩
  | 53 => ⟨S11008x2048, .bf16⟩
  | 54 => ⟨S11008x2048, .bf16⟩
  | 55 => ⟨S11008x2048, .bf16⟩
  | 56 => ⟨S_, .bf16⟩
  | 57 => ⟨S_, .bf16⟩
  | 58 => ⟨S11008x2048, .bf16⟩
  | 59 => ⟨S11008x2048, .bf16⟩
  | 60 => ⟨S11008x2048, .bf16⟩
  | 61 => ⟨S_, .bf16⟩
  | 62 => ⟨S_, .bf16⟩
  | 63 => ⟨S11008x2048, .bf16⟩
  | 64 => ⟨S11008x2048, .bf16⟩
  | 65 => ⟨S11008x2048, .bf16⟩
  | 66 => ⟨S_, .bf16⟩
  | 67 => ⟨S_, .bf16⟩
  | 68 => ⟨S11008x2048, .bf16⟩
  | 69 => ⟨S11008x2048, .bf16⟩
  | 70 => ⟨S11008x2048, .bf16⟩
  | 71 => ⟨S_, .bf16⟩
  | 72 => ⟨S_, .bf16⟩
  | 73 => ⟨S11008x2048, .bf16⟩
  | 74 => ⟨S11008x2048, .bf16⟩
  | 75 => ⟨S11008x2048, .bf16⟩
  | 76 => ⟨S_, .bf16⟩
  | 77 => ⟨S_, .bf16⟩
  | 78 => ⟨S11008x2048, .bf16⟩
  | 79 => ⟨S11008x2048, .bf16⟩
  | 80 => ⟨S11008x2048, .bf16⟩
  | 81 => ⟨S_, .bf16⟩
  | 82 => ⟨S_, .bf16⟩
  | 83 => ⟨S11008x2048, .bf16⟩
  | 84 => ⟨S11008x2048, .bf16⟩
  | 85 => ⟨S11008x2048, .bf16⟩
  | 86 => ⟨S_, .bf16⟩
  | 87 => ⟨S_, .bf16⟩
  | 88 => ⟨S11008x2048, .bf16⟩
  | 89 => ⟨S11008x2048, .bf16⟩
  | 90 => ⟨S11008x2048, .bf16⟩
  | 91 => ⟨S11008x2048, .bf16⟩
  | 92 => ⟨S11008x2048, .bf16⟩
  | 93 => ⟨S11008x2048, .bf16⟩
  | 94 => ⟨S11008x2048, .bf16⟩
  | 95 => ⟨S11008x2048, .bf16⟩
  | 96 => ⟨S11008x2048, .bf16⟩
  | 97 => ⟨S11008x2048, .bf16⟩
  | 98 => ⟨S11008x64x32, .bf16⟩
  | 99 => ⟨S11008x64x1, .bf16⟩
  | 100 => ⟨S11008x64x32, .bf16⟩
  | 101 => ⟨S11008x64x32, .bf16⟩
  | 102 => ⟨S11008x2048, .bf16⟩
  | 103 => ⟨S1x128x11008, .f32⟩
  | 104 => ⟨S1x128x2048, .bf16⟩
  | 105 => ⟨S_, .i32⟩
  | 106 => ⟨S11008x2048, .i32⟩
  | 107 => ⟨S11008x2048, .i32⟩
  | 108 => ⟨S_, .i32⟩
  | 109 => ⟨S11008x2048, .i32⟩
  | 110 => ⟨S11008x2048, .i1⟩
  | 111 => ⟨S_, .i32⟩
  | 112 => ⟨S11008x2048, .i32⟩
  | 113 => ⟨S11008x2048, .i32⟩
  | 114 => ⟨S_, .i32⟩
  | 115 => ⟨S11008x2048, .i32⟩
  | 116 => ⟨S11008x2048, .i1⟩
  | 117 => ⟨S_, .i32⟩
  | 118 => ⟨S11008x2048, .i32⟩
  | 119 => ⟨S11008x2048, .i32⟩
  | 120 => ⟨S_, .i32⟩
  | 121 => ⟨S11008x2048, .i32⟩
  | 122 => ⟨S11008x2048, .i1⟩
  | 123 => ⟨S_, .i32⟩
  | 124 => ⟨S11008x2048, .i32⟩
  | 125 => ⟨S11008x2048, .i32⟩
  | 126 => ⟨S_, .i32⟩
  | 127 => ⟨S11008x2048, .i32⟩
  | _ => ⟨S1x128x4096, .bf16⟩

abbrev hbmTy0_1 (i : Nat) : BufTy := match i % 128 with
  | 0 => ⟨S11008x2048, .i1⟩
  | 1 => ⟨S_, .bf16⟩
  | 2 => ⟨S_, .bf16⟩
  | 3 => ⟨S11008x2048, .bf16⟩
  | 4 => ⟨S11008x2048, .bf16⟩
  | 5 => ⟨S11008x2048, .bf16⟩
  | 6 => ⟨S_, .bf16⟩
  | 7 => ⟨S_, .bf16⟩
  | 8 => ⟨S11008x2048, .bf16⟩
  | 9 => ⟨S11008x2048, .bf16⟩
  | 10 => ⟨S11008x2048, .bf16⟩
  | 11 => ⟨S_, .bf16⟩
  | 12 => ⟨S_, .bf16⟩
  | 13 => ⟨S11008x2048, .bf16⟩
  | 14 => ⟨S11008x2048, .bf16⟩
  | 15 => ⟨S11008x2048, .bf16⟩
  | 16 => ⟨S_, .bf16⟩
  | 17 => ⟨S_, .bf16⟩
  | 18 => ⟨S11008x2048, .bf16⟩
  | 19 => ⟨S11008x2048, .bf16⟩
  | 20 => ⟨S11008x2048, .bf16⟩
  | 21 => ⟨S_, .bf16⟩
  | 22 => ⟨S_, .bf16⟩
  | 23 => ⟨S11008x2048, .bf16⟩
  | 24 => ⟨S11008x2048, .bf16⟩
  | 25 => ⟨S11008x2048, .bf16⟩
  | 26 => ⟨S_, .bf16⟩
  | 27 => ⟨S_, .bf16⟩
  | 28 => ⟨S11008x2048, .bf16⟩
  | 29 => ⟨S11008x2048, .bf16⟩
  | 30 => ⟨S11008x2048, .bf16⟩
  | 31 => ⟨S_, .bf16⟩
  | 32 => ⟨S_, .bf16⟩
  | 33 => ⟨S11008x2048, .bf16⟩
  | 34 => ⟨S11008x2048, .bf16⟩
  | 35 => ⟨S11008x2048, .bf16⟩
  | 36 => ⟨S_, .bf16⟩
  | 37 => ⟨S_, .bf16⟩
  | 38 => ⟨S11008x2048, .bf16⟩
  | 39 => ⟨S11008x2048, .bf16⟩
  | 40 => ⟨S11008x2048, .bf16⟩
  | 41 => ⟨S11008x2048, .bf16⟩
  | 42 => ⟨S11008x2048, .bf16⟩
  | 43 => ⟨S11008x2048, .bf16⟩
  | 44 => ⟨S11008x2048, .bf16⟩
  | 45 => ⟨S11008x2048, .bf16⟩
  | 46 => ⟨S11008x2048, .bf16⟩
  | 47 => ⟨S11008x2048, .bf16⟩
  | 48 => ⟨S11008x64x32, .bf16⟩
  | 49 => ⟨S11008x64x1, .bf16⟩
  | 50 => ⟨S11008x64x32, .bf16⟩
  | 51 => ⟨S11008x64x32, .bf16⟩
  | 52 => ⟨S11008x2048, .bf16⟩
  | 53 => ⟨S1x128x11008, .f32⟩
  | 54 => ⟨S1x128x11008, .f32⟩
  | 55 => ⟨S1x128x86x128, .f32⟩
  | 56 => ⟨S1x128x86x128, .f32⟩
  | 57 => ⟨S_, .f32⟩
  | 58 => ⟨S1x128x86, .f32⟩
  | 59 => ⟨S_, .f32⟩
  | 60 => ⟨S1x128x86, .f32⟩
  | 61 => ⟨S1x128x86, .f32⟩
  | 62 => ⟨S1x128x86x1, .f32⟩
  | 63 => ⟨S1x1x1x254, .f32⟩
  | 64 => ⟨S1x128x86x254, .f32⟩
  | 65 => ⟨S1x128x86x254, .f32⟩
  | 66 => ⟨S1x128x86x254, .i1⟩
  | 67 => ⟨S_, .f32⟩
  | 68 => ⟨S_, .f32⟩
  | 69 => ⟨S1x128x86x254, .f32⟩
  | 70 => ⟨S1x128x86x254, .f32⟩
  | 71 => ⟨S1x128x86x254, .f32⟩
  | 72 => ⟨S_, .f32⟩
  | 73 => ⟨S1x128x86, .f32⟩
  | 74 => ⟨S_, .f32⟩
  | 75 => ⟨S1x128x86, .f32⟩
  | 76 => ⟨S1x128x86, .i1⟩
  | 77 => ⟨S_, .f32⟩
  | 78 => ⟨S1x128x86, .f32⟩
  | 79 => ⟨S1x128x86, .f32⟩
  | 80 => ⟨S_, .f32⟩
  | 81 => ⟨S_, .f32⟩
  | 82 => ⟨S1x128x86, .f32⟩
  | 83 => ⟨S1x128x86, .f32⟩
  | 84 => ⟨S1x128x86x1, .f32⟩
  | 85 => ⟨S1x128x86x128, .f32⟩
  | 86 => ⟨S1x128x86x128, .f32⟩
  | 87 => ⟨S_, .f32⟩
  | 88 => ⟨S_, .f32⟩
  | 89 => ⟨S_, .f32⟩
  | 90 => ⟨S1x128x86x128, .f32⟩
  | 91 => ⟨S1x128x86x128, .f32⟩
  | 92 => ⟨S_, .f32⟩
  | 93 => ⟨S1x128x86x128, .f32⟩
  | 94 => ⟨S1x128x86x128, .f32⟩
  | 95 => ⟨S1x128x86x128, .fp8e4m3⟩
  | 96 => ⟨S1x128x11008, .fp8e4m3⟩
  | _ => ⟨S1x128x4096, .bf16⟩

abbrev hbmTy (i : Nat) : BufTy := match i / 128 with
  | 0 => hbmTy0_0 i
  | 1 => hbmTy0_1 i
  | _ => ⟨S1x128x4096, .bf16⟩

abbrev bufTy : (tb : Table) → Fin (tcTables nBuf tb) → BufTy
  | .hbm, ⟨i, _⟩ => hbmTy i
  | _, _ => ⟨S1x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_c_8 : Ref sig .tc := ⟨.hbm, 45, rfl⟩
abbrev main_v30 : Ref sig .tc := ⟨.hbm, 46, rfl⟩
abbrev main_v31 : Ref sig .tc := ⟨.hbm, 47, rfl⟩
abbrev main_c_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_cst_11 : Ref sig .tc := ⟨.hbm, 52, rfl⟩
abbrev main_call0_v0 : Ref sig .tc := ⟨.hbm, 53, rfl⟩
abbrev main_call0_v1 : Ref sig .tc := ⟨.hbm, 54, rfl⟩
abbrev main_v34 : Ref sig .tc := ⟨.hbm, 55, rfl⟩
abbrev main_cst_12 : Ref sig .tc := ⟨.hbm, 56, rfl⟩
abbrev main_cst_13 : Ref sig .tc := ⟨.hbm, 57, rfl⟩
abbrev main_call1_v0 : Ref sig .tc := ⟨.hbm, 58, rfl⟩
abbrev main_call1_v1 : Ref sig .tc := ⟨.hbm, 59, rfl⟩
abbrev main_v35 : Ref sig .tc := ⟨.hbm, 60, rfl⟩
abbrev main_cst_14 : Ref sig .tc := ⟨.hbm, 61, rfl⟩
abbrev main_cst_15 : Ref sig .tc := ⟨.hbm, 62, rfl⟩
abbrev main_call2_v0 : Ref sig .tc := ⟨.hbm, 63, rfl⟩
abbrev main_call2_v1 : Ref sig .tc := ⟨.hbm, 64, rfl⟩
abbrev main_v36 : Ref sig .tc := ⟨.hbm, 65, rfl⟩
abbrev main_cst_16 : Ref sig .tc := ⟨.hbm, 66, rfl⟩
abbrev main_cst_17 : Ref sig .tc := ⟨.hbm, 67, rfl⟩
abbrev main_call3_v0 : Ref sig .tc := ⟨.hbm, 68, rfl⟩
abbrev main_call3_v1 : Ref sig .tc := ⟨.hbm, 69, rfl⟩
abbrev main_v37 : Ref sig .tc := ⟨.hbm, 70, rfl⟩
abbrev main_cst_18 : Ref sig .tc := ⟨.hbm, 71, rfl⟩
abbrev main_cst_19 : Ref sig .tc := ⟨.hbm, 72, rfl⟩
abbrev main_call4_v0 : Ref sig .tc := ⟨.hbm, 73, rfl⟩
abbrev main_call4_v1 : Ref sig .tc := ⟨.hbm, 74, rfl⟩
abbrev main_v38 : Ref sig .tc := ⟨.hbm, 75, rfl⟩
abbrev main_cst_20 : Ref sig .tc := ⟨.hbm, 76, rfl⟩
abbrev main_cst_21 : Ref sig .tc := ⟨.hbm, 77, rfl⟩
abbrev main_call5_v0 : Ref sig .tc := ⟨.hbm, 78, rfl⟩
abbrev main_call5_v1 : Ref sig .tc := ⟨.hbm, 79, rfl⟩
abbrev main_v39 : Ref sig .tc := ⟨.hbm, 80, rfl⟩
abbrev main_cst_22 : Ref sig .tc := ⟨.hbm, 81, rfl⟩
abbrev main_cst_23 : Ref sig .tc := ⟨.hbm, 82, rfl⟩
abbrev main_call6_v0 : Ref sig .tc := ⟨.hbm, 83, rfl⟩
abbrev main_call6_v1 : Ref sig .tc := ⟨.hbm, 84, rfl⟩
abbrev main_v40 : Ref sig .tc := ⟨.hbm, 85, rfl⟩
abbrev main_cst_24 : Ref sig .tc := ⟨.hbm, 86, rfl⟩
abbrev main_cst_25 : Ref sig .tc := ⟨.hbm, 87, rfl⟩
abbrev main_call7_v0 : Ref sig .tc := ⟨.hbm, 88, rfl⟩
abbrev main_call7_v1 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_26 : Ref sig .tc := ⟨.hbm, 105, rfl⟩
abbrev main_v56 : Ref sig .tc := ⟨.hbm, 106, rfl⟩
abbrev main_v57 : Ref sig .tc := ⟨.hbm, 107, rfl⟩
abbrev main_c_27 : Ref sig .tc := ⟨.hbm, 108, rfl⟩
abbrev main_v58 : Ref sig .tc := ⟨.hbm, 109, rfl⟩
abbrev main_v59 : Ref sig .tc := ⟨.hbm, 110, rfl⟩
abbrev main_c_28 : Ref sig .tc := ⟨.hbm, 111, rfl⟩
abbrev main_v60 : Ref sig .tc := ⟨.hbm, 112, rfl⟩
abbrev main_v61 : Ref sig .tc := ⟨.hbm, 113, rfl⟩
abbrev main_c_29 : Ref sig .tc := ⟨.hbm, 114, rfl⟩
abbrev main_v62 : Ref sig .tc := ⟨.hbm, 115, rfl⟩
abbrev main_v63 : Ref sig .tc := ⟨.hbm, 116, rfl⟩
abbrev main_c_30 : Ref sig .tc := ⟨.hbm, 117, rfl⟩
abbrev main_v64 : Ref sig .tc := ⟨.hbm, 118, rfl⟩
abbrev main_v65 : Ref sig .tc := ⟨.hbm, 119, rfl⟩
abbrev main_c_31 : Ref sig .tc := ⟨.hbm, 120, rfl⟩
abbrev main_v66 : Ref sig .tc := ⟨.hbm, 121, rfl⟩
abbrev main_v67 : Ref sig .tc := ⟨.hbm, 122, rfl⟩
abbrev main_c_32 : Ref sig .tc := ⟨.hbm, 123, rfl⟩
abbrev main_v68 : Ref sig .tc := ⟨.hbm, 124, rfl⟩
abbrev main_v69 : Ref sig .tc := ⟨.hbm, 125, rfl⟩
abbrev main_c_33 : Ref sig .tc := ⟨.hbm, 126, rfl⟩
abbrev main_v70 : Ref sig .tc := ⟨.hbm, 127, rfl⟩
abbrev main_v71 : Ref sig .tc := ⟨.hbm, 128, rfl⟩
abbrev main_cst_34 : Ref sig .tc := ⟨.hbm, 129, rfl⟩
abbrev main_cst_35 : Ref sig .tc := ⟨.hbm, 130, rfl⟩
abbrev main_call15_v0 : Ref sig .tc := ⟨.hbm, 131, rfl⟩
abbrev main_call15_v1 : Ref sig .tc := ⟨.hbm, 132, rfl⟩
abbrev main_v72 : Ref sig .tc := ⟨.hbm, 133, rfl⟩
abbrev main_cst_36 : Ref sig .tc := ⟨.hbm, 134, rfl⟩
abbrev main_cst_37 : Ref sig .tc := ⟨.hbm, 135, rfl⟩
abbrev main_call16_v0 : Ref sig .tc := ⟨.hbm, 136, rfl⟩
abbrev main_call16_v1 : Ref sig .tc := ⟨.hbm, 137, rfl⟩
abbrev main_v73 : Ref sig .tc := ⟨.hbm, 138, rfl⟩
abbrev main_cst_38 : Ref sig .tc := ⟨.hbm, 139, rfl⟩
abbrev main_cst_39 : Ref sig .tc := ⟨.hbm, 140, rfl⟩
abbrev main_call17_v0 : Ref sig .tc := ⟨.hbm, 141, rfl⟩
abbrev main_call17_v1 : Ref sig .tc := ⟨.hbm, 142, rfl⟩
abbrev main_v74 : Ref sig .tc := ⟨.hbm, 143, rfl⟩
abbrev main_cst_40 : Ref sig .tc := ⟨.hbm, 144, rfl⟩
abbrev main_cst_41 : Ref sig .tc := ⟨.hbm, 145, rfl⟩
abbrev main_call18_v0 : Ref sig .tc := ⟨.hbm, 146, rfl⟩
abbrev main_call18_v1 : Ref sig .tc := ⟨.hbm, 147, rfl⟩
abbrev main_v75 : Ref sig .tc := ⟨.hbm, 148, rfl⟩
abbrev main_cst_42 : Ref sig .tc := ⟨.hbm, 149, rfl⟩
abbrev main_cst_43 : Ref sig .tc := ⟨.hbm, 150, rfl⟩
abbrev main_call19_v0 : Ref sig .tc := ⟨.hbm, 151, rfl⟩
abbrev main_call19_v1 : Ref sig .tc := ⟨.hbm, 152, rfl⟩
abbrev main_v76 : Ref sig .tc := ⟨.hbm, 153, rfl⟩
abbrev main_cst_44 : Ref sig .tc := ⟨.hbm, 154, rfl⟩
abbrev main_cst_45 : Ref sig .tc := ⟨.hbm, 155, rfl⟩
abbrev main_call20_v0 : Ref sig .tc := ⟨.hbm, 156, rfl⟩
abbrev main_call20_v1 : Ref sig .tc := ⟨.hbm, 157, rfl⟩
abbrev main_v77 : Ref sig .tc := ⟨.hbm, 158, rfl⟩
abbrev main_cst_46 : Ref sig .tc := ⟨.hbm, 159, rfl⟩
abbrev main_cst_47 : Ref sig .tc := ⟨.hbm, 160, rfl⟩
abbrev main_call21_v0 : Ref sig .tc := ⟨.hbm, 161, rfl⟩
abbrev main_call21_v1 : Ref sig .tc := ⟨.hbm, 162, rfl⟩
abbrev main_v78 : Ref sig .tc := ⟨.hbm, 163, rfl⟩
abbrev main_cst_48 : Ref sig .tc := ⟨.hbm, 164, rfl⟩
abbrev main_cst_49 : Ref sig .tc := ⟨.hbm, 165, rfl⟩
abbrev main_call22_v0 : Ref sig .tc := ⟨.hbm, 166, rfl⟩
abbrev main_call22_v1 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_cst_50 : Ref sig .tc := ⟨.hbm, 185, rfl⟩
abbrev main_v96 : Ref sig .tc := ⟨.hbm, 186, rfl⟩
abbrev main_cst_51 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_52 : Ref sig .tc := ⟨.hbm, 195, rfl⟩
abbrev main_call30_v0 : Ref sig .tc := ⟨.hbm, 196, rfl⟩
abbrev main_call30_v1 : Ref sig .tc := ⟨.hbm, 197, rfl⟩
abbrev main_call30_v2 : Ref sig .tc := ⟨.hbm, 198, rfl⟩
abbrev main_v104 : Ref sig .tc := ⟨.hbm, 199, rfl⟩
abbrev main_cst_53 : Ref sig .tc := ⟨.hbm, 200, rfl⟩
abbrev main_v105 : Ref sig .tc := ⟨.hbm, 201, rfl⟩
abbrev main_cst_54 : Ref sig .tc := ⟨.hbm, 202, rfl⟩
abbrev main_v106 : Ref sig .tc := ⟨.hbm, 203, rfl⟩
abbrev main_v107 : Ref sig .tc := ⟨.hbm, 204, rfl⟩
abbrev main_cst_55 : Ref sig .tc := ⟨.hbm, 205, rfl⟩
abbrev main_v108 : Ref sig .tc := ⟨.hbm, 206, rfl⟩
abbrev main_v109 : Ref sig .tc := ⟨.hbm, 207, rfl⟩
abbrev main_cst_56 : Ref sig .tc := ⟨.hbm, 208, rfl⟩
abbrev main_call31_v0 : Ref sig .tc := ⟨.hbm, 209, rfl⟩
abbrev main_call31_v1 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_cst_57 : Ref sig .tc := ⟨.hbm, 215, rfl⟩
abbrev main_cst_58 : Ref sig .tc := ⟨.hbm, 216, rfl⟩
abbrev main_call32_v0 : Ref sig .tc := ⟨.hbm, 217, rfl⟩
abbrev main_call32_v1 : Ref sig .tc := ⟨.hbm, 218, rfl⟩
abbrev main_call32_v2 : Ref sig .tc := ⟨.hbm, 219, rfl⟩
abbrev main_call32_v3 : Ref sig .tc := ⟨.hbm, 220, rfl⟩
abbrev main_call32_v4 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩

abbrev nD : Nat := 1
abbrev τ : Topo := Topo.v7x

variable {F : FTy → Type} [FloatOps F]
-- ==== Proof.KernelBody.lean ====
/-
  The kernel body over bits, run once for each of its two kinds of grid point (the first, where it permutes `x`, and every
  later one). Of what it leaves in the buffers it writes nothing is said here: this is what the frame needs.
-/
module

public import proofs.«01_k».proof.Proof.Gen.Kernel.Skeleton
public import Idealize.ShloMosaic.Lib.Claim
public import Idealize.ShloMosaic.Lib.Tactic

@[expose] public section

set_option maxRecDepth 16384

noncomputable section

namespace Cert.Kernel.Proof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The resource algebra: the rounds library's, for the pipeline's cells. -/
abbrev UR (nD : Nat) (τ : Topo) : Type := URounds (GSem nD τ sig) Unit

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The condition under which the body permutes `x`: the grid coordinate is zero. -/
abbrev first (i : grid0.Coords) : BitVec 1 :=
  Scalar.cmpi .ne (Scalar.extui (Scalar.cmpi .eq (BitVec.ofNat 32 (i 0).val) 0#32) : BitVec 32) 0#32

/-- A later grid point: the body runs to its return from all its buffers held whole, handing the inputs back as they
    were. -/
theorem run_rest (c : Dev nD) (i : grid0.Coords) (hc : ¬ first i = 1#1)
    (M1 : Memref sig .tc .vmem S1x128x4096 .bf16) (h1 : M1.IsWhole)
    (M2 : Memref sig .tc .vmem S256x2048 .i8) (h2 : M2.IsWhole)
    (M3 : Memref sig .tc .vmem S256x64 .i8) (h3 : M3.IsWhole)
    (M4 : Memref sig .tc .vmem S1x1x64 .f32) (h4 : M4.IsWhole)
    (M5 : Memref sig .tc .smem S1 .f32) (h5 : M5.IsWhole)
    (M6 : Memref sig .tc .vmem S2x32x128 .i8) (h6 : M6.IsWhole)
    (M7 : Memref sig .tc .vmem S256x256 .bf16) (h7 : M7.IsWhole)
    (M8 : Memref sig .tc .vmem S1x128x256 .fp8e4m3) (h8 : M8.IsWhole)
    (M9 : Memref sig .tc .vmem S1x128x86 .f32) (h9 : M9.IsWhole)
    (M10 : Memref sig .tc .vmem S128x4096 .bf16) (h10 : M10.IsWhole)
    (M11 : Memref sig .tc .vmem S64x256 .i32) (h11 : M11.IsWhole)
    (M12 : Memref sig .tc .vmem S128x128 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12)
    (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
      ∗ (iprop(pt c M1 f1 ∗ pt c M2 f2 ∗ pt c M3 f3 ∗ pt c M4 f4 ∗ pt c M5 f5 ∗ pt c M6 f6 ∗ pt c M7 f7 ∗ (∃ f, pt c M8 f) ∗ (∃ f, pt c M9 f) ∗ (∃ f, pt c M10 f) ∗ (∃ f, pt c M11 f) ∗ (∃ f, pt c M12 f)) -∗ Q ⟨⟩))
    ⊢ wp frame (wpE (defs₀ (F := F)) Variants.none c none) E
        (cc0_nf4_linear i M1 h1 M2 h2 M3 h3 M4 h4 M5 h5 M6 h6 M7 h7 M8 h8 M9 h9 M10 h10 M11 h11 M12 h12) Q := by
    iintro ⟨H1, H2, H3, H4, H5, H6, H7, H8, H9, H10, H11, H12, Hk⟩
    sl_exec_parts! (disch := exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iexists _; iexact H12

/-- The first grid point: the same. -/
theorem run_first (c : Dev nD) (i : grid0.Coords) (hc : first i = 1#1)
    (M1 : Memref sig .tc .vmem S1x128x4096 .bf16) (h1 : M1.IsWhole)
    (M2 : Memref sig .tc .vmem S256x2048 .i8) (h2 : M2.IsWhole)
    (M3 : Memref sig .tc .vmem S256x64 .i8) (h3 : M3.IsWhole)
    (M4 : Memref sig .tc .vmem S1x1x64 .f32) (h4 : M4.IsWhole)
    (M5 : Memref sig .tc .smem S1 .f32) (h5 : M5.IsWhole)
    (M6 : Memref sig .tc .vmem S2x32x128 .i8) (h6 : M6.IsWhole)
    (M7 : Memref sig .tc .vmem S256x256 .bf16) (h7 : M7.IsWhole)
    (M8 : Memref sig .tc .vmem S1x128x256 .fp8e4m3) (h8 : M8.IsWhole)
    (M9 : Memref sig .tc .vmem S1x128x86 .f32) (h9 : M9.IsWhole)
    (M10 : Memref sig .tc .vmem S128x4096 .bf16) (h10 : M10.IsWhole)
    (M11 : Memref sig .tc .vmem S64x256 .i32) (h11 : M11.IsWhole)
    (M12 : Memref sig .tc .vmem S128x128 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12)
    (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
      ∗ (iprop(pt c M1 f1 ∗ pt c M2 f2 ∗ pt c M3 f3 ∗ pt c M4 f4 ∗ pt c M5 f5 ∗ pt c M6 f6 ∗ pt c M7 f7 ∗ (∃ f, pt c M8 f) ∗ (∃ f, pt c M9 f) ∗ (∃ f, pt c M10 f) ∗ (∃ f, pt c M11 f) ∗ (∃ f, pt c M12 f)) -∗ Q ⟨⟩))
    ⊢ wp frame (wpE (defs₀ (F := F)) Variants.none c none) E
        (cc0_nf4_linear i M1 h1 M2 h2 M3 h3 M4 h4 M5 h5 M6 h6 M7 h7 M8 h8 M9 h9 M10 h10 M11 h11 M12 h12) Q := by
    iintro ⟨H1, H2, H3, H4, H5, H6, H7, H8, H9, H10, H11, H12, Hk⟩
    sl_exec_parts! (disch := exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iexists _; iexact H12

/-- Any grid point. -/
theorem run_body (c : Dev nD) (i : grid0.Coords)
    (M1 : Memref sig .tc .vmem S1x128x4096 .bf16) (h1 : M1.IsWhole)
    (M2 : Memref sig .tc .vmem S256x2048 .i8) (h2 : M2.IsWhole)
    (M3 : Memref sig .tc .vmem S256x64 .i8) (h3 : M3.IsWhole)
    (M4 : Memref sig .tc .vmem S1x1x64 .f32) (h4 : M4.IsWhole)
    (M5 : Memref sig .tc .smem S1 .f32) (h5 : M5.IsWhole)
    (M6 : Memref sig .tc .vmem S2x32x128 .i8) (h6 : M6.IsWhole)
    (M7 : Memref sig .tc .vmem S256x256 .bf16) (h7 : M7.IsWhole)
    (M8 : Memref sig .tc .vmem S1x128x256 .fp8e4m3) (h8 : M8.IsWhole)
    (M9 : Memref sig .tc .vmem S1x128x86 .f32) (h9 : M9.IsWhole)
    (M10 : Memref sig .tc .vmem S128x4096 .bf16) (h10 : M10.IsWhole)
    (M11 : Memref sig .tc .vmem S64x256 .i32) (h11 : M11.IsWhole)
    (M12 : Memref sig .tc .vmem S128x128 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12)
    (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
      ∗ (iprop(pt c M1 f1 ∗ pt c M2 f2 ∗ pt c M3 f3 ∗ pt c M4 f4 ∗ pt c M5 f5 ∗ pt c M6 f6 ∗ pt c M7 f7 ∗ (∃ f, pt c M8 f) ∗ (∃ f, pt c M9 f) ∗ (∃ f, pt c M10 f) ∗ (∃ f, pt c M11 f) ∗ (∃ f, pt c M12 f)) -∗ Q ⟨⟩))
    ⊢ wp frame (wpE (defs₀ (F := F)) Variants.none c none) E
        (cc0_nf4_linear i M1 h1 M2 h2 M3 h3 M4 h4 M5 h5 M6 h6 M7 h7 M8 h8 M9 h9 M10 h10 M11 h11 M12 h12) Q := by
  by_cases hc : first i = 1#1
  · exact run_first c i hc M1 h1 M2 h2 M3 h3 M4 h4 M5 h5 M6 h6 M7 h7 M8 h8 M9 h9 M10 h10 M11 h11 M12 h12 f1 f2 f3 f4 f5 f6 f7 f8 f9 f10 f11 f12 E Q
  · exact run_rest c i hc M1 h1 M2 h2 M3 h3 M4 h4 M5 h5 M6 h6 M7 h7 M8 h8 M9 h9 M10 h10 M11 h11 M12 h12 f1 f2 f3 f4 f5 f6 f7 f8 f9 f10 f11 f12 E Q

end Cert.Kernel.Proof

end
-- ==== Proof.KernelFrame.lean ====
/-
  The frame of the kernel over bits: from any memory with all counters zero the run terminates, every argument array ends as
  it began and every counter is zero again. Of what the body leaves in a buffer nothing is said: the proof data constrain
  it by the relation that always holds, and the body obligation is `run_body`.
-/
module

public import proofs.«01_k».proof.Proof.Gen.Kernel.Frame
public import proofs.«01_k».proof.Proof.KernelBody

@[expose] public section

set_option maxRecDepth 16384

noncomputable section

namespace Cert.Kernel.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [BitOps F]

local notation "𝕄" => MT nD τ sig Unit (Elt F) ℕ (Proof.UR nD τ) ℕ

variable (m : (ℓ : Loc nD τ sig) → Buf (Elt F) ℓ) (ρ : Dev nD → PrngReg)

/-- A whole memref owned at some value is its buffer held whole, -/
theorem pt_of_owns (c : Dev nD) {sp : Space} {S : Shape} {e : EltTy} (M : Memref sig .tc sp S e) (h : M.IsWhole) (X : S.Idx → Elt F e) :
    (owns (c : Thread nD τ) M fullShare X : sProp 𝕄) ⊢ iprop(∃ f, pt c M f) := by
  unfold owns pt; rw [h.set_eq_univ]
  iintro ⟨%f, -, H⟩; iexists f; iexact H

/-- and conversely. -/
theorem owns_of_pt (c : Dev nD) {sp : Space} {S : Shape} {e : EltTy} (M : Memref sig .tc sp S e) (h : M.IsWhole) (f : Bf (F := F) c M) :
    (pt c M f : sProp 𝕄) ⊢ owns (c : Thread nD τ) M fullShare (M.view.read (Elt F) f) := by
  unfold owns pt; rw [h.set_eq_univ]
  iintro H; iexists f; isplitr; · ipureintro; rfl
  iexact H

/-- The proof data: the arrays as the region finds them, nothing said of what the body leaves, the scratch buffers at any
    contents. -/
def rdat (c : Dev nD) : RDat τ (Elt F) Unit ℕ (Proof.UR nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by
  dsimp only [rdat]

/-- The body at a point, from its buffers at any contents to its buffers at some contents. -/
theorem sound_body (c : Dev nD) (t : Fin cfg0.N) (Y : (w : Fin cfg0.W) → ((cfg0.win w).block.Idx) → Elt F (cfg0.win w).elt) (O : sProp 𝕄) :
    iprop(Pipeline.ΦA spec0 c ∗ O ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8))
      ⊢ wp frame (wpE (defs₀ (F := F)) Variants.none c none) Set.univ (bodyAt0 t) (fun _ =>
        iprop(Pipeline.ΦA spec0 c ∗ O ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X))) := by
  unfold bodyAt0 Pipeline.ΦA
  rw [scopedRest0_eq]
  iintro ⟨⟨⟨⟨%g0, S0⟩, ⟨%g1, S1⟩, ⟨%g2, S2⟩⟩, Hr⟩, Ho, H0, H1, H2, H3, H4, H5, H6, H7, H8⟩
  ihave G0 := (pt_of_owns c (st0_0 t) (stage_whole0 0 _) (Y 0)) $$ H0
  icases G0 with ⟨%f0, H0⟩
  ihave G1 := (pt_of_owns c (st0_1 t) (stage_whole0 1 _) (Y 1)) $$ H1
  icases G1 with ⟨%f1, H1⟩
  ihave G2 := (pt_of_owns c (st0_2 t) (stage_whole0 2 _) (Y 2)) $$ H2
  icases G2 with ⟨%f2, H2⟩
  ihave G3 := (pt_of_owns c (st0_3 t) (stage_whole0 3 _) (Y 3)) $$ H3
  icases G3 with ⟨%f3, H3⟩
  ihave G4 := (pt_of_owns c (st0_4 t) (stage_whole0 4 _) (Y 4)) $$ H4
  icases G4 with ⟨%f4, H4⟩
  ihave G5 := (pt_of_owns c (st0_5 t) (stage_whole0 5 _) (Y 5)) $$ H5
  icases G5 with ⟨%f5, H5⟩
  ihave G6 := (pt_of_owns c (st0_6 t) (stage_whole0 6 _) (Y 6)) $$ H6
  icases G6 with ⟨%f6, H6⟩
  ihave G7 := (pt_of_owns c (st0_7 t) (stage_whole0 7 _) (Y 7)) $$ H7
  icases G7 with ⟨%f7, H7⟩
  ihave G8 := (pt_of_owns c (st0_8 t) (stage_whole0 8 _) (Y 8)) $$ H8
  icases G8 with ⟨%f8, H8⟩
  iapply (run_body c (grid0.coords t) _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _)
    f0 f1 f2 f3 f4 f5 f6 f7 f8 g0 g1 g2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, ⟨%f7', H7⟩, ⟨%f8', H8⟩, ⟨%g0', S0⟩, ⟨%g1', S1⟩, ⟨%g2', S2⟩⟩
  isplitl [S0 S1 S2 Hr]
  · isplitl [S0 S1 S2]
    · isplitl [S0]; · iexists _; iexact S0
      isplitl [S1]; · iexists _; iexact S1
      iexists _; iexact S2
    · iexact Hr
  isplitl [Ho]; · iexact Ho
  isplitl [H0]
  · iexists _; isplitr; · ipureintro; trivial
    iapply (owns_of_pt c (st0_0 t) (stage_whole0 0 _)); iexact H0
  isplitl [H1]
  · iexists _; isplitr; · ipureintro; trivial
    iapply (owns_of_pt c (st0_1 t) (stage_whole0 1 _)); iexact H1
  isplitl [H2]
  · iexists _; isplitr; · ipureintro; trivial
    iapply (owns_of_pt c (st0_2 t) (stage_whole0 2 _)); iexact H2
  isplitl [H3]
  · iexists _; isplitr; · ipureintro; trivial
    iapply (owns_of_pt c (st0_3 t) (stage_whole0 3 _)); iexact H3
  isplitl [H4]
  · iexists _; isplitr; · ipureintro; trivial
    iapply (owns_of_pt c (st0_4 t) (stage_whole0 4 _)); iexact H4
  isplitl [H5]
  · iexists _; isplitr; · ipureintro; trivial
    iapply (owns_of_pt c (st0_5 t) (stage_whole0 5 _)); iexact H5
  isplitl [H6]
  · iexists _; isplitr; · ipureintro; trivial
    iapply (owns_of_pt c (st0_6 t) (stage_whole0 6 _)); iexact H6
  isplitl [H7]
  · iexists _; isplitr; · ipureintro; trivial
    iapply (owns_of_pt c (st0_7 t) (stage_whole0 7 _)); iexact H7
  iexists _; isplitr; · ipureintro; trivial
  iapply (owns_of_pt c (st0_8 t) (stage_whole0 8 _)); iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y _ => by
  rw [bigSep_W0, bigSep_W0, defs₀_row]
  exact triple_restated (sound_body c t Y ((rdat m c).owesAt () t.castSucc)) rfl .rfl fun _ => .rfl

set_option backward.isDefEq.respectTransparency.types false in
/-- The run, with every semaphore counter of the machine at zero at every final state. -/
theorem run_main_quiescent : θ_run defs (onTc (τ := τ) (main (F := F))) (s₀ m ρ) (fun r => (Pipeline.RDat.FramePost cfg0 (rdat m) (V m)) r ∧ r.2.sem = fun _ => 0) :=
  Pipeline.RDat.θ_run_frame (Q' := _) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := A_eq m) (hΦ := fun _ _ => rfl)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main_quiescent m ρ)

end Cert.Kernel.Proof

end
-- ==== Proof.IdealBody.lean ====
/-
  The idealized kernel body, run once for each of its two kinds of grid point: the first point, where it permutes
  `x` into its scratch buffer, and every later one, where it finds the permuted `x` there. What the body leaves in
  the buffers it writes are terms over the contents it found, discovered by the run as the witnesses of a subtype.
-/
module

public import proofs.«01_k».proof.Proof.Gen.KernelIdeal.Skeleton
public import Idealize.ShloMosaic.Lib.Claim
public import Idealize.ShloMosaic.Lib.Tactic

@[expose] public section

set_option maxRecDepth 16384

noncomputable section

namespace Cert.KernelIdeal.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR (nD : Nat) (τ : Topo) : Type := URounds (GSem nD τ sig) Unit

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The condition under which the body permutes `x`: the grid coordinate is zero. -/
abbrev first (i : grid0.Coords) : BitVec 1 :=
  Scalar.cmpi .ne (Scalar.extui (Scalar.cmpi .eq (BitVec.ofNat 32 (i 0).val) 0#32) : BitVec 32) 0#32

/-- A later grid point: the permuted `x` is read from the scratch buffer (contents `f10`), the weight tile is dequantised
    and multiplied, the result quantised into the tile of codes, its scales into two lanes of the scale buffer; at the
    last point the scales are copied out. -/
noncomputable def runRest (c : Dev nD) (i : grid0.Coords) (hc : ¬ first i = 1#1)
    (M1 : Memref sig .tc .vmem S1x128x4096 .bf16) (h1 : M1.IsWhole)
    (M2 : Memref sig .tc .vmem S256x2048 .i8) (h2 : M2.IsWhole)
    (M3 : Memref sig .tc .vmem S256x64 .i8) (h3 : M3.IsWhole)
    (M4 : Memref sig .tc .vmem S1x1x64 .f32) (h4 : M4.IsWhole)
    (M5 : Memref sig .tc .smem S1 .f32) (h5 : M5.IsWhole)
    (M6 : Memref sig .tc .vmem S2x32x128 .i8) (h6 : M6.IsWhole)
    (M7 : Memref sig .tc .vmem S256x256 .bf16) (h7 : M7.IsWhole)
    (M8 : Memref sig .tc .vmem S1x128x256 .fp8e4m3) (h8 : M8.IsWhole)
    (M9 : Memref sig .tc .vmem S1x128x86 .f32) (h9 : M9.IsWhole)
    (M10 : Memref sig .tc .vmem S128x4096 .bf16) (h10 : M10.IsWhole)
    (M11 : Memref sig .tc .vmem S64x2x256 .bf16) (h11 : M11.IsWhole)
    (M12 : Memref sig .tc .vmem S128x128 .f32) (h12 : M12.IsWhole)
    (f2 : Bf (F := F) c M2) (f3 : Bf (F := F) c M3) (f4 : Bf (F := F) c M4)
    (f5 : Bf (F := F) c M5) (f6 : Bf (F := F) c M6) (f9 : Bf (F := F) c M9) (f10 : Bf (F := F) c M10) (f12 : Bf (F := F) c M12) :
    { W : Bf (F := F) c M8 × Bf (F := F) c M9 × Bf (F := F) c M12 //
      ∀ (f1 : Bf (F := F) c M1) (f7 : Bf (F := F) c M7) (f8 : Bf (F := F) c M8) (f11 : Bf (F := F) c M11) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8
          ∗ pt c M9 f9 ∗ pt c M10 f10 ∗ pt c M11 f11 ∗ pt c M12 f12
          ∗ (iprop(pt c M1 f1 ∗ pt c M2 f2 ∗ pt c M3 f3 ∗ pt c M4 f4 ∗ pt c M5 f5 ∗ pt c M6 f6 ∗ pt c M7 f7
              ∗ pt c M8 W.1 ∗ pt c M9 W.2.1 ∗ pt c M10 f10 ∗ (∃ f, pt c M11 f) ∗ pt c M12 W.2.2) -∗ Q ⟨⟩))
        ⊢ wp frame (wpE (defs₀ (F := F)) Variants.none c none) E
            (cc0_nf4_linear i M1 h1 M2 h2 M3 h3 M4 h4 M5 h5 M6 h6 M7 h7 M8 h8 M9 h9 M10 h10 M11 h11 M12 h12) Q } := by
  refine ⟨⟨?_, ?_, ?_⟩, fun f1 f7 f8 f11 E Q => ?run⟩
  case run =>
    iintro ⟨H1, H2, H3, H4, H5, H6, H7, H8, H9, H10, H11, H12, Hk⟩
    sl_exec_parts! (disch := exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexact H12

/-- The first grid point: `x` is permuted into the scratch buffer, then as at every other point. -/
noncomputable def runFirst (c : Dev nD) (i : grid0.Coords) (hc : first i = 1#1)
    (M1 : Memref sig .tc .vmem S1x128x4096 .bf16) (h1 : M1.IsWhole)
    (M2 : Memref sig .tc .vmem S256x2048 .i8) (h2 : M2.IsWhole)
    (M3 : Memref sig .tc .vmem S256x64 .i8) (h3 : M3.IsWhole)
    (M4 : Memref sig .tc .vmem S1x1x64 .f32) (h4 : M4.IsWhole)
    (M5 : Memref sig .tc .smem S1 .f32) (h5 : M5.IsWhole)
    (M6 : Memref sig .tc .vmem S2x32x128 .i8) (h6 : M6.IsWhole)
    (M7 : Memref sig .tc .vmem S256x256 .bf16) (h7 : M7.IsWhole)
    (M8 : Memref sig .tc .vmem S1x128x256 .fp8e4m3) (h8 : M8.IsWhole)
    (M9 : Memref sig .tc .vmem S1x128x86 .f32) (h9 : M9.IsWhole)
    (M10 : Memref sig .tc .vmem S128x4096 .bf16) (h10 : M10.IsWhole)
    (M11 : Memref sig .tc .vmem S64x2x256 .bf16) (h11 : M11.IsWhole)
    (M12 : Memref sig .tc .vmem S128x128 .f32) (h12 : M12.IsWhole)
    (f1 : Bf (F := F) c M1) (f2 : Bf (F := F) c M2) (f3 : Bf (F := F) c M3) (f4 : Bf (F := F) c M4)
    (f5 : Bf (F := F) c M5) (f6 : Bf (F := F) c M6) (f7 : Bf (F := F) c M7) (f9 : Bf (F := F) c M9) (f12 : Bf (F := F) c M12) :
    { W : Bf (F := F) c M8 × Bf (F := F) c M9 × Bf (F := F) c M10 × Bf (F := F) c M12 //
      ∀ (f8 : Bf (F := F) c M8) (f10 : Bf (F := F) c M10) (f11 : Bf (F := F) c M11) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8
          ∗ pt c M9 f9 ∗ pt c M10 f10 ∗ pt c M11 f11 ∗ pt c M12 f12
          ∗ (iprop(pt c M1 f1 ∗ pt c M2 f2 ∗ pt c M3 f3 ∗ pt c M4 f4 ∗ pt c M5 f5 ∗ pt c M6 f6 ∗ pt c M7 f7
              ∗ pt c M8 W.1 ∗ pt c M9 W.2.1 ∗ pt c M10 W.2.2.1 ∗ (∃ f, pt c M11 f) ∗ pt c M12 W.2.2.2) -∗ Q ⟨⟩))
        ⊢ wp frame (wpE (defs₀ (F := F)) Variants.none c none) E
            (cc0_nf4_linear i M1 h1 M2 h2 M3 h3 M4 h4 M5 h5 M6 h6 M7 h7 M8 h8 M9 h9 M10 h10 M11 h11 M12 h12) Q } := by
  refine ⟨⟨?_, ?_, ?_, ?_⟩, fun f8 f10 f11 E Q => ?run⟩
  case run =>
    iintro ⟨H1, H2, H3, H4, H5, H6, H7, H8, H9, H10, H11, H12, Hk⟩
    sl_exec_parts! (disch := exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexact H12

end Cert.KernelIdeal.Proof

end
-- ==== Proof.IdealFrame.lean ====
/-
  The frame of the idealized kernel: from any memory with all counters zero the run terminates, every argument array ends as
  it began and every counter is zero again. Of what the body leaves in a buffer nothing is said: the proof data constrain
  it by the relation that always holds, and the body obligation is `run_body`.
-/
module

public import proofs.«01_k».proof.Proof.Gen.KernelIdeal.Frame
public import proofs.«01_k».proof.Proof.IdealBody

@[expose] public section

set_option maxRecDepth 16384

noncomputable section

namespace Cert.KernelIdeal.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Proof.UR nD τ) ℕ

variable (m : (ℓ : Loc nD τ sig) → Buf (Elt F) ℓ) (ρ : Dev nD → PrngReg)

/-- A whole memref owned at some value is its buffer held whole, -/
theorem pt_of_owns (c : Dev nD) {sp : Space} {S : Shape} {e : EltTy} (M : Memref sig .tc sp S e) (h : M.IsWhole) (X : S.Idx → Elt F e) :
    (owns (c : Thread nD τ) M fullShare X : sProp 𝕄) ⊢ iprop(∃ f, pt c M f) := by
  unfold owns pt; rw [h.set_eq_univ]
  iintro ⟨%f, -, H⟩; iexists f; iexact H

/-- and conversely. -/
theorem owns_of_pt (c : Dev nD) {sp : Space} {S : Shape} {e : EltTy} (M : Memref sig .tc sp S e) (h : M.IsWhole) (f : Bf (F := F) c M) :
    (pt c M f : sProp 𝕄) ⊢ owns (c : Thread nD τ) M fullShare (M.view.read (Elt F) f) := by
  unfold owns pt; rw [h.set_eq_univ]
  iintro H; iexists f; isplitr; · ipureintro; rfl
  iexact H

/-- The proof data: the arrays as the region finds them, nothing said of what the body leaves, the scratch buffers at any
    contents. -/
def rdat (c : Dev nD) : RDat τ (Elt F) Unit ℕ (Proof.UR nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by
  dsimp only [rdat]

/-- The body at either kind of point. -/
theorem run_body (c : Dev nD) (i : grid0.Coords)
    (M1 : Memref sig .tc .vmem S1x128x4096 .bf16) (h1 : M1.IsWhole)
    (M2 : Memref sig .tc .vmem S256x2048 .i8) (h2 : M2.IsWhole)
    (M3 : Memref sig .tc .vmem S256x64 .i8) (h3 : M3.IsWhole)
    (M4 : Memref sig .tc .vmem S1x1x64 .f32) (h4 : M4.IsWhole)
    (M5 : Memref sig .tc .smem S1 .f32) (h5 : M5.IsWhole)
    (M6 : Memref sig .tc .vmem S2x32x128 .i8) (h6 : M6.IsWhole)
    (M7 : Memref sig .tc .vmem S256x256 .bf16) (h7 : M7.IsWhole)
    (M8 : Memref sig .tc .vmem S1x128x256 .fp8e4m3) (h8 : M8.IsWhole)
    (M9 : Memref sig .tc .vmem S1x128x86 .f32) (h9 : M9.IsWhole)
    (M10 : Memref sig .tc .vmem S128x4096 .bf16) (h10 : M10.IsWhole)
    (M11 : Memref sig .tc .vmem S64x2x256 .bf16) (h11 : M11.IsWhole)
    (M12 : Memref sig .tc .vmem S128x128 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12)
    (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
      ∗ (iprop(pt c M1 f1 ∗ pt c M2 f2 ∗ pt c M3 f3 ∗ pt c M4 f4 ∗ pt c M5 f5 ∗ pt c M6 f6 ∗ pt c M7 f7 ∗ (∃ f, pt c M8 f) ∗ (∃ f, pt c M9 f) ∗ (∃ f, pt c M10 f) ∗ (∃ f, pt c M11 f) ∗ (∃ f, pt c M12 f)) -∗ Q ⟨⟩))
    ⊢ wp frame (wpE (defs₀ (F := F)) Variants.none c none) E
        (cc0_nf4_linear i M1 h1 M2 h2 M3 h3 M4 h4 M5 h5 M6 h6 M7 h7 M8 h8 M9 h9 M10 h10 M11 h11 M12 h12) Q := by
  by_cases hc : first i = 1#1
  · refine .trans ?_ ((runFirst c i hc M1 h1 M2 h2 M3 h3 M4 h4 M5 h5 M6 h6 M7 h7 M8 h8 M9 h9 M10 h10 M11 h11 M12 h12 f1 f2 f3 f4 f5 f6 f7 f9 f12).2 f8 f10 f11 E Q)
    iintro ⟨H1, H2, H3, H4, H5, H6, H7, H8, H9, H10, H11, H12, Hk⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H1, H2, H3, H4, H5, H6, H7, H8, H9, H10, H11, H12⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    iexists _; iexact H12
  · refine .trans ?_ ((runRest c i hc M1 h1 M2 h2 M3 h3 M4 h4 M5 h5 M6 h6 M7 h7 M8 h8 M9 h9 M10 h10 M11 h11 M12 h12 f2 f3 f4 f5 f6 f9 f10 f12).2 f1 f7 f8 f11 E Q)
    iintro ⟨H1, H2, H3, H4, H5, H6, H7, H8, H9, H10, H11, H12, Hk⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H1, H2, H3, H4, H5, H6, H7, H8, H9, H10, H11, H12⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    iexists _; iexact H12

/-- The body at a point, from its buffers at any contents to its buffers at some contents. -/
theorem sound_body (c : Dev nD) (t : Fin cfg0.N) (Y : (w : Fin cfg0.W) → ((cfg0.win w).block.Idx) → Elt F (cfg0.win w).elt) (O : sProp 𝕄) :
    iprop(Pipeline.ΦA spec0 c ∗ O ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8))
      ⊢ wp frame (wpE (defs₀ (F := F)) Variants.none c none) Set.univ (bodyAt0 t) (fun _ =>
        iprop(Pipeline.ΦA spec0 c ∗ O ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X))) := by
  unfold bodyAt0 Pipeline.ΦA
  rw [scopedRest0_eq]
  iintro ⟨⟨⟨⟨%g0, S0⟩, ⟨%g1, S1⟩, ⟨%g2, S2⟩⟩, Hr⟩, Ho, H0, H1, H2, H3, H4, H5, H6, H7, H8⟩
  ihave G0 := (pt_of_owns c (st0_0 t) (stage_whole0 0 _) (Y 0)) $$ H0
  icases G0 with ⟨%f0, H0⟩
  ihave G1 := (pt_of_owns c (st0_1 t) (stage_whole0 1 _) (Y 1)) $$ H1
  icases G1 with ⟨%f1, H1⟩
  ihave G2 := (pt_of_owns c (st0_2 t) (stage_whole0 2 _) (Y 2)) $$ H2
  icases G2 with ⟨%f2, H2⟩
  ihave G3 := (pt_of_owns c (st0_3 t) (stage_whole0 3 _) (Y 3)) $$ H3
  icases G3 with ⟨%f3, H3⟩
  ihave G4 := (pt_of_owns c (st0_4 t) (stage_whole0 4 _) (Y 4)) $$ H4
  icases G4 with ⟨%f4, H4⟩
  ihave G5 := (pt_of_owns c (st0_5 t) (stage_whole0 5 _) (Y 5)) $$ H5
  icases G5 with ⟨%f5, H5⟩
  ihave G6 := (pt_of_owns c (st0_6 t) (stage_whole0 6 _) (Y 6)) $$ H6
  icases G6 with ⟨%f6, H6⟩
  ihave G7 := (pt_of_owns c (st0_7 t) (stage_whole0 7 _) (Y 7)) $$ H7
  icases G7 with ⟨%f7, H7⟩
  ihave G8 := (pt_of_owns c (st0_8 t) (stage_whole0 8 _) (Y 8)) $$ H8
  icases G8 with ⟨%f8, H8⟩
  iapply (run_body c (grid0.coords t) _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _)
    f0 f1 f2 f3 f4 f5 f6 f7 f8 g0 g1 g2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, ⟨%f7', H7⟩, ⟨%f8', H8⟩, ⟨%g0', S0⟩, ⟨%g1', S1⟩, ⟨%g2', S2⟩⟩
  isplitl [S0 S1 S2 Hr]
  · isplitl [S0 S1 S2]
    · isplitl [S0]; · iexists _; iexact S0
      isplitl [S1]; · iexists _; iexact S1
      iexists _; iexact S2
    · iexact Hr
  isplitl [Ho]; · iexact Ho
  isplitl [H0]
  · iexists _; isplitr; · ipureintro; trivial
    iapply (owns_of_pt c (st0_0 t) (stage_whole0 0 _)); iexact H0
  isplitl [H1]
  · iexists _; isplitr; · ipureintro; trivial
    iapply (owns_of_pt c (st0_1 t) (stage_whole0 1 _)); iexact H1
  isplitl [H2]
  · iexists _; isplitr; · ipureintro; trivial
    iapply (owns_of_pt c (st0_2 t) (stage_whole0 2 _)); iexact H2
  isplitl [H3]
  · iexists _; isplitr; · ipureintro; trivial
    iapply (owns_of_pt c (st0_3 t) (stage_whole0 3 _)); iexact H3
  isplitl [H4]
  · iexists _; isplitr; · ipureintro; trivial
    iapply (owns_of_pt c (st0_4 t) (stage_whole0 4 _)); iexact H4
  isplitl [H5]
  · iexists _; isplitr; · ipureintro; trivial
    iapply (owns_of_pt c (st0_5 t) (stage_whole0 5 _)); iexact H5
  isplitl [H6]
  · iexists _; isplitr; · ipureintro; trivial
    iapply (owns_of_pt c (st0_6 t) (stage_whole0 6 _)); iexact H6
  isplitl [H7]
  · iexists _; isplitr; · ipureintro; trivial
    iapply (owns_of_pt c (st0_7 t) (stage_whole0 7 _)); iexact H7
  iexists _; isplitr; · ipureintro; trivial
  iapply (owns_of_pt c (st0_8 t) (stage_whole0 8 _)); iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y _ => by
  rw [bigSep_W0, bigSep_W0, defs₀_row]
  exact triple_restated (sound_body c t Y ((rdat m c).owesAt () t.castSucc)) rfl .rfl fun _ => .rfl

set_option backward.isDefEq.respectTransparency.types false in
/-- The run, with every semaphore counter of the machine at zero at every final state. -/
theorem run_main_quiescent : θ_run defs (onTc (τ := τ) (main (F := F))) (s₀ m ρ) (fun r => (Pipeline.RDat.FramePost cfg0 (rdat m) (V m)) r ∧ r.2.sem = fun _ => 0) :=
  Pipeline.RDat.θ_run_frame (Q' := _) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := A_eq m) (hΦ := fun _ _ => rfl)

/-- THE FRAME. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main_quiescent m ρ)

end Cert.KernelIdeal.Proof

end
-- ==== Proof.Tile.lean ====
/-
  What the idealized kernel's body computes at a grid point, as functions of the blocks it reads: the dequantised
  tiles, the chain of sixteen matrix passes, the quantiser and the permutation of `x`. Each is the body's operations
  in their order, indexed by chunk, half and block where the body spells every case out.
-/
module

public import proofs.«01_k».proof.Proof.Gen.KernelIdeal.Skeleton
public import Idealize.ShloMosaic.Lib.Pipeline.FrameBody

@[expose] public section

set_option maxRecDepth 16384

noncomputable section

namespace Cert.KernelIdeal.Proof

open Cert.KernelIdeal Cert.KernelIdeal.Gen

open Idealize.ShloMosaic

variable {F : FTy → Type} [FloatOps F]

/-! ## The tables and the lookup -/

/-- A codebook table laid along the lanes: column `j` of the block's first 32 lanes is row `j`, repeated four times. -/
def table (T : Vec F S1x32x128 .i8) : IVec S32x128 32 :=
  let b : IVec S32x32 32 := transpose S32x32 [1, 0] (extractStridedSlice S32x32 ![0, 0] (extsi 32 (shapeCast S32x128 T shapeCasts_S1x32x128_S32x128 : IVec S32x128 8) natLt_8_32) slices_S32x128_o0_0_S32x32) transposes_S32x32_p1_0_S32x32
  concatenate S32x128 1 [⟨S32x32, b⟩, ⟨S32x32, b⟩, ⟨S32x32, b⟩, ⟨S32x32, b⟩] concatenates_S32x32_S32x32_S32x32_S32x32_S32x128_d1

/-- The odd rows of a 32-row block. -/
def oddRow : IVec S32x128 1 :=
  cmpi .eq (andi (iota .tc S32x128 32 [0] iota_S32x128_d0_w32) (broadcast S32x128 1#32)) (broadcast S32x128 1#32)

/-- A table looked up at a block of nibbles. -/
def lookup (T : IVec S32x128 32) (s : IVec S32x128 8) : IVec S32x128 8 :=
  trunci 8 (dynamicGather 1 T (shapeCast S32x128 (shapeCast S32x128x1 (extsi 32 s natLt_8_32) shapeCasts_S32x128_S32x128x1) shapeCasts_S32x128x1_S32x128)) natLt_8_32

/-- The low or the high nibbles of a block of bytes given as words. -/
def nibble (hi : Bool) (u : IVec S8x128 32) : IVec S32x128 8 :=
  bitcast S32x128 8 (andi (match hi with | true => shrui u (broadcast S8x128 4#32) | false => u) (broadcast S8x128 252645135#32)) bitcasts_S8x128_w32_S32x128_w8

/-- The words of the even or of the odd rows' values: the two tables' bytes side by side. -/
def words (odd : Bool) (vl vh : IVec S32x128 8) : IVec S8x128 32 :=
  match odd with
  | false => ori (andi (bitcast S8x128 32 vl bitcasts_S32x128_w8_S8x128_w32) (broadcast S8x128 16711935#32))
      (shli (andi (bitcast S8x128 32 vh bitcasts_S32x128_w8_S8x128_w32) (broadcast S8x128 16711935#32)) (broadcast S8x128 8#32))
  | true => bitcast S8x128 32 (select oddRow vh (bitcast S32x128 8 (shrui (bitcast S8x128 32 vl bitcasts_S32x128_w8_S8x128_w32) (broadcast S8x128 8#32)) bitcasts_S8x128_w32_S32x128_w8)) bitcasts_S32x128_w8_S8x128_w32

/-! ## The dequantised tile -/

/-- One block's scales, a row of the scale buffer repeated over sixteen rows. -/
def amRows (raw : Vec F S1x2x128 .bf16) : FVec F S16x128 .bf16 :=
  let h (p : Fin 2) : FVec F S8x128 .bf16 :=
    let b : FVec F S1x128 .bf16 := shapeCast S1x128 (rowsOfParity p S1x1x128 raw bitcasts_S1x2x128_w16_S1x1x128_w32) shapeCasts_S1x1x128_S1x128
    concatenate S8x128 0 [⟨S1x128, b⟩, ⟨S1x128, b⟩, ⟨S1x128, b⟩, ⟨S1x128, b⟩, ⟨S1x128, b⟩, ⟨S1x128, b⟩, ⟨S1x128, b⟩, ⟨S1x128, b⟩] concatenates_S1x128_S1x128_S1x128_S1x128_S1x128_S1x128_S1x128_S1x128_S8x128_d0
  interleaveRows S16x128 (h 0) (h 1) bitcasts_S16x128_w16_S8x128_w32

theorem slices_block : ∀ r : Fin 4, S128x128.Slices ![32 * r.val, 0] S32x128 := by decide

/-- Sixteen rows of the tile: of 32 bytes' nibbles, low or high, the even or the odd ones, dequantised. -/
def piece (TL TH : IVec S32x128 32) (U : IVec S128x128 8) (A : Fin 4 → FVec F S16x128 .bf16) (r : Fin 4) (hi odd : Bool) :
    FVec F S16x128 .bf16 :=
  let s := nibble hi (bitcast S8x128 32 (extractStridedSlice S32x128 ![32 * r.val, 0] U (slices_block r)) bitcasts_S32x128_w8_S8x128_w32)
  mulf (bitcastToFloat .bf16 (bitcast S16x128 16 (words odd (lookup TL s) (lookup TH s)) bitcasts_S8x128_w32_S16x128_w16)) (A r)

/-- 128 columns of the tile. -/
def half (TL TH : IVec S32x128 32) (U : IVec S128x128 8) (A : Fin 4 → FVec F S16x128 .bf16) : FVec F S256x128 .bf16 :=
  let p (r : Fin 4) (hi odd : Bool) : FVec F S16x128 .bf16 := piece TL TH U A r hi odd
  concatenate S256x128 0
    [⟨S16x128, p 0 false false⟩, ⟨S16x128, p 0 false true⟩, ⟨S16x128, p 0 true false⟩, ⟨S16x128, p 0 true true⟩,
     ⟨S16x128, p 1 false false⟩, ⟨S16x128, p 1 false true⟩, ⟨S16x128, p 1 true false⟩, ⟨S16x128, p 1 true true⟩,
     ⟨S16x128, p 2 false false⟩, ⟨S16x128, p 2 false true⟩, ⟨S16x128, p 2 true false⟩, ⟨S16x128, p 2 true true⟩,
     ⟨S16x128, p 3 false false⟩, ⟨S16x128, p 3 false true⟩, ⟨S16x128, p 3 true false⟩, ⟨S16x128, p 3 true true⟩]
    concatenates_S16x128_S16x128_S16x128_S16x128_S16x128_S16x128_S16x128_S16x128_S16x128_S16x128_S16x128_S16x128_S16x128_S16x128_S16x128_S16x128_S256x128_d0

theorem inb_w (h : Fin 2) (c : Fin 16) : ∀ a, (![128 * h.val, 128 * c.val] : Fin 2 → Nat) a + S128x128.size a ≤ S256x2048.size a := by
  revert h c; decide
theorem inb_am (h : Fin 2) (c : Fin 16) (r : Fin 4) : ∀ a, (![4 * c.val + r.val, 0, 128 * h.val] : Fin 3 → Nat) a + S1x2x128.size a ≤ S64x2x256.size a := by
  revert h c r; decide
theorem inb_xp (c : Fin 16) : ∀ a, (![0, 256 * c.val] : Fin 2 → Nat) a + S128x256.size a ≤ S128x4096.size a := by
  revert c; decide
theorem inb_x (c : Fin 16) : ∀ a, (![0, 0, 256 * c.val] : Fin 3 → Nat) a + S1x128x256.size a ≤ S1x128x4096.size a := by
  revert c; decide

/-- Half `h` of chunk `c`'s tile, out of the weight block and the scale buffer. -/
def halfAt (TL TH : IVec S32x128 32) (W : Vec F S256x2048 .i8) (AM : Vec F S64x2x256 .bf16) (c : Fin 16) (h : Fin 2) : FVec F S256x128 .bf16 :=
  half TL TH (transpose S128x128 [1, 0] (View.ld W (Rect.unit ![128 * h.val, 128 * c.val] S128x128.size (inb_w h c))) transposes_S128x128_p1_0_S128x128)
    fun r => amRows (View.ld AM (Rect.unit ![4 * c.val + r.val, 0, 128 * h.val] S1x2x128.size (inb_am h c r)))

/-- Chunk `c`'s tile. -/
def tile (TL TH : IVec S32x128 32) (W : Vec F S256x2048 .i8) (AM : Vec F S64x2x256 .bf16) (c : Fin 16) : FVec F S256x256 .bf16 :=
  concatenate S256x256 1 [⟨S256x128, halfAt TL TH W AM c 0⟩, ⟨S256x128, halfAt TL TH W AM c 1⟩] concatenates_S256x128_S256x128_S256x256_d1

/-! ## The matrix passes -/

/-- The chunks in order. -/
def chunks : List (Fin 16) := [0, 1, 2, 3, 4, 5, 6, 7, 8, 9, 10, 11, 12, 13, 14, 15]

/-- The unit and the staging register of chunk `c`. -/
def unitOf (c : Fin 16) : Fin 2 := ⟨c.val % 2, Nat.mod_lt _ (by decide)⟩
def regOf (c : Fin 16) : Fin 2 := ⟨c.val / 2 % 2, Nat.mod_lt _ (by decide)⟩

/-- Chunk `c`: its tile pushed, then multiplied by its columns of the permuted `x` into the unit's accumulator. -/
def pass (T : Fin 16 → FVec F S256x256 .bf16) (L : Fin 16 → FVec F S128x256 .bf16) (s : Mxu F) (c : Fin 16) : Mxu F :=
  (s.pushed (unitOf c) (regOf c) false (T c)).accLhs (unitOf c) (regOf c) 0 (L c) fits_0_128

def passes (s : Mxu F) (T : Fin 16 → FVec F S256x256 .bf16) (L : Fin 16 → FVec F S128x256 .bf16) : Mxu F :=
  chunks.foldl (pass T L) s

/-- The two units' accumulators added. -/
def popped (s : Mxu F) : FVec F S128x256 .f32 :=
  addf (s.read 0 0 fits_0_128) ((s.pop 0 0 128 fits_0_128).read 1 0 fits_0_128)

/-- The columns of the permuted `x` that chunk `c` reads. -/
def cols (X : Vec F S128x4096 .bf16) (c : Fin 16) : FVec F S128x256 .bf16 :=
  View.ld X (Rect.unit ![0, 256 * c.val] S128x256.size (inb_xp c))

/-! ## The scales -/

/-- The absmax codes by their groups' scales, the offset added, rounded. -/
def amLo (C : Vec F S256x64 .i8) (S : Vec F S1x1x64 .f32) (O : Vec F S1 .f32) : FVec F S64x256 .bf16 :=
  k0_pay42 (k0_pay37 (View.ld C (Rect.unit ![0, 0] S256x64.size inb_S256x64_S256x64_0_0))) (iota .tc S8x128 32 [1] iota_S8x128_d1_w32)
    (k0_pay38 (View.ld S (Rect.unit ![0, 0, 0] S1x1x64.size inb_S1x1x64_S1x1x64_0_0_0)) (View.ld S (Rect.unit ![0, 0, 0] S1x1x64.size inb_S1x1x64_S1x1x64_0_0_0)))
    k0_pay39 k0_pay40 (View.ld O (Rect.unit ![0] S1.size inb_S1_S1_0) (Shape.Idx.first (by decide)))

/-- The scale buffer's words: the same in both halves. -/
def amOf (C : Vec F S256x64 .i8) (S : Vec F S1x1x64 .f32) (O : Vec F S1 .f32) : Vec F S64x2x256 .bf16 :=
  interleaveRows S64x2x256 (shapeCast S64x1x256 (amLo C S O) shapeCasts_S64x256_S64x1x256)
    (shapeCast S64x1x256 (amLo C S O) shapeCasts_S64x256_S64x1x256) bitcasts_S64x2x256_w16_S64x1x256_w32

/-! ## The quantiser -/

/-- A group's largest magnitude over 448, along its row. -/
def ymax (y : FVec F S128x128 .f32) : FVec F S128x128 .f32 :=
  broadcastTo S128x128 (shapeCast S128x1 (mulf (shapeCast S128x1 (multiReduction .maximumf [1] S128 (absf y) 0xFF800000#32 reduces_S128x128_S128 (.inl rfl) rfl) shapeCasts_S128_S128x1)
    (broadcast S128x1 (Scalar.ofBits .f32 0x3B124925#32))) shapeCasts_S128x1_S128x1) broadcasts_S128x1_S128x128

/-- One rung of the ladder: where `a` reaches `p * u` the power becomes that, and its inverse half's factor `q * d`. -/
def rung (a : FVec F S128x128 .f32) (s : FVec F S128x128 .f32 × FVec F S128x128 .f32) (ud : BitVec 32 × BitVec 32) :
    FVec F S128x128 .f32 × FVec F S128x128 .f32 :=
  let t := mulf s.1 (broadcast S128x128 (Scalar.ofBits .f32 ud.1))
  let g := cmpf .oge a t
  (select g t s.1, select g (mulf s.2 (broadcast S128x128 (Scalar.ofBits .f32 ud.2))) s.2)

/-- The rungs: `2 ^ k` and `2 ^ -k`. -/
def rungs : List (BitVec 32 × BitVec 32) :=
  [(0x7F000000#32, 0x00400000#32), (0x5F000000#32, 0x20000000#32), (0x4F800000#32, 0x2F800000#32), (0x47800000#32, 0x37800000#32),
   (0x43800000#32, 0x3B800000#32), (0x41800000#32, 0x3D800000#32), (0x40800000#32, 0x3E800000#32), (0x40000000#32, 0x3F000000#32)]

/-- The largest power of two not above `a`, and its inverse. -/
def ladder (a : FVec F S128x128 .f32) : FVec F S128x128 .f32 × FVec F S128x128 .f32 :=
  rungs.foldl (rung a) (broadcast S128x128 (Scalar.ofBits .f32 0x00800000#32), broadcast S128x128 (Scalar.ofBits .f32 0x7E800000#32))

def tiny (a : FVec F S128x128 .f32) : IVec S128x128 1 := cmpf .olt a (broadcast S128x128 (Scalar.ofBits .f32 0x00800000#32))

/-- The scale of a group and its inverse. -/
def scaleOf (y : FVec F S128x128 .f32) : FVec F S128x128 .f32 :=
  select (tiny (ymax y)) (broadcast S128x128 (Scalar.ofBits .f32 0x3F800000#32)) (mulf (ladder (ymax y)).1 (broadcast S128x128 (Scalar.ofBits .f32 0x40000000#32)))
def invOf (y : FVec F S128x128 .f32) : FVec F S128x128 .f32 :=
  select (tiny (ymax y)) (broadcast S128x128 (Scalar.ofBits .f32 0x3F800000#32)) (mulf (ladder (ymax y)).2 (broadcast S128x128 (Scalar.ofBits .f32 0x3F000000#32)))

/-- A group's codes. -/
def codesOf (y : FVec F S128x128 .f32) : FVec F S1x128x128 .fp8e4m3 :=
  shapeCast S1x128x128 (truncf .fp8e4m3 (minimumf (broadcast S128x128 (Scalar.ofBits .f32 0x43E00000#32))
    (maximumf (broadcast S128x128 (Scalar.ofBits .f32 0xC3E00000#32)) (mulf y (invOf y)))) bitsLt_fp8e4m3_f32) shapeCasts_S128x128_S1x128x128

/-- The two groups of a tile. -/
def group0 (y : FVec F S128x256 .f32) : FVec F S128x128 .f32 := extractStridedSlice S128x128 ![0, 0] y slices_S128x256_o0_0_S128x128
def group1 (y : FVec F S128x256 .f32) : FVec F S128x128 .f32 := extractStridedSlice S128x128 ![0, 128] y slices_S128x256_o0_128_S128x128

/-- A scale put into its lane of the scale buffer. -/
def putScale (i : BitVec 32) (g : BitVec 32) (s prev : FVec F S128x128 .f32) : FVec F S128x128 .f32 :=
  select (cmpi .eq (iota .tc S128x128 32 [1] iota_S128x128_d1_w32) (broadcast S128x128 (Scalar.addi (Scalar.muli 2#32 i) g))) s prev

/-! ## The permutation of `x` -/

/-- Chunk `c`'s columns of `x`, as the matrix passes take them. -/
def xCols (X : Vec F S1x128x4096 .bf16) (c : Fin 16) : FVec F S128x256 .bf16 :=
  shapeCast S128x256 (View.ld X (Rect.unit ![0, 0, 256 * c.val] S1x128x256.size (inb_x c))) shapeCasts_S1x128x256_S128x256

/-- The write of chunk `c`'s permuted columns. -/
def permPiece (c : Fin 16) (v : FVec F S128x256 .f32) : View.Piece (Elt F) S128x4096 .bf16 :=
  ⟨Rect.unit ![0, 256 * c.val] S128x256.size (inb_xp c), shapeCast S128x256 (truncf .bf16 v bitsLt_bf16_f32) shapeCasts_S128x256_S128x256⟩

/-- A state of the matrix units with a tile loaded in both. -/
abbrev Loaded (F : FTy → Type) [FloatOps F] := {s : Mxu F // ∀ q, (s.gmr q).isSome = true}

/-- The first two chunks: the permutation matrix pushed into both units, each loads it and multiplies its chunk. -/
def permStart (X : Vec F S1x128x4096 .bf16) (P : FVec F S256x256 .bf16) : Loaded F × List (View.Piece (Elt F) S128x4096 .bf16) :=
  let a := ((Mxu.init.pushed 0 0 false P).pushed 1 0 false P).accLhs 0 0 0 (xCols X 0) fits_0_128
  let b := (a.pop 0 0 128 fits_0_128).accLhs 1 0 0 (xCols X 1) fits_0_128
  (⟨b.pop 1 0 128 fits_0_128, fun q => by fin_cases q <;> rfl⟩, [permPiece 1 (b.read 1 0 fits_0_128), permPiece 0 (a.read 0 0 fits_0_128)])

/-- A later chunk: the unit multiplies by the tile it holds. -/
def permStep (X : Vec F S1x128x4096 .bf16) (a : Loaded F × List (View.Piece (Elt F) S128x4096 .bf16)) (c : Fin 16) :
    Loaded F × List (View.Piece (Elt F) S128x4096 .bf16) :=
  let b := a.1.1.accBy (unitOf c) ((a.1.1.gmr (unitOf c)).get (a.1.2 _)) 0 (xCols X c) fits_0_128
  (⟨b.pop (unitOf c) 0 128 fits_0_128, a.1.2⟩, permPiece c (b.read (unitOf c) 0 fits_0_128) :: a.2)

def laterChunks : List (Fin 16) := [2, 3, 4, 5, 6, 7, 8, 9, 10, 11, 12, 13, 14, 15]

/-- The whole permutation: the units' state after it, and the writes of the permuted `x`. -/
def perm (X : Vec F S1x128x4096 .bf16) (P : Vec F S256x256 .bf16) : Loaded F × List (View.Piece (Elt F) S128x4096 .bf16) :=
  laterChunks.foldl (permStep X)
    (permStart X (shapeCast S256x256 (View.ld P (Rect.unit ![0, 0] S256x256.size inb_S256x256_S256x256_0_0)) shapeCasts_S256x256_S256x256))

end Cert.KernelIdeal.Proof

end
-- ==== Proof.Match.lean ====
/-
  The terms the body's run leaves in its buffers are the functions of the blocks it reads: each equation holds by
  unfolding the run's terms and the functions.
-/
module

public import proofs.«01_k».proof.Proof.IdealBody
public import proofs.«01_k».proof.Proof.Tile

@[expose] public section

set_option maxRecDepth 16384

noncomputable section

namespace Cert.KernelIdeal.Proof

open Cert.KernelIdeal Cert.KernelIdeal.Gen

open Idealize.ShloMosaic Idealize.ShloMosaic.TcCoe

variable {F : FTy → Type} [FloatOps F]

variable (c : Dev nD) (i : grid0.Coords)
    (M1 : Memref sig .tc .vmem S1x128x4096 .bf16)
    (M2 : Memref sig .tc .vmem S256x2048 .i8)
    (M3 : Memref sig .tc .vmem S256x64 .i8)
    (M4 : Memref sig .tc .vmem S1x1x64 .f32)
    (M5 : Memref sig .tc .smem S1 .f32)
    (M6 : Memref sig .tc .vmem S2x32x128 .i8)
    (M7 : Memref sig .tc .vmem S256x256 .bf16)
    (M8 : Memref sig .tc .vmem S1x128x256 .fp8e4m3)
    (M9 : Memref sig .tc .vmem S1x128x86 .f32)
    (M10 : Memref sig .tc .vmem S128x4096 .bf16)
    (M11 : Memref sig .tc .vmem S64x2x256 .bf16)
    (M12 : Memref sig .tc .vmem S128x128 .f32)
    (f1 : Bf (F := F) c M1) (f2 : Bf (F := F) c M2) (f3 : Bf (F := F) c M3) (f4 : Bf (F := F) c M4)
    (f5 : Bf (F := F) c M5) (f6 : Bf (F := F) c M6) (f7 : Bf (F := F) c M7) (f9 : Bf (F := F) c M9) (f10 : Bf (F := F) c M10) (f12 : Bf (F := F) c M12)

/-- The two codebook tables out of their block. -/
abbrev tabLo (T : Vec F S2x32x128 .i8) : IVec S32x128 32 :=
  table (F := F) (View.ld T (Rect.unit ![0, 0, 0] S1x32x128.size inb_S2x32x128_S1x32x128_0_0_0))
abbrev tabHi (T : Vec F S2x32x128 .i8) : IVec S32x128 32 :=
  table (F := F) (View.ld T (Rect.unit ![1, 0, 0] S1x32x128.size inb_S2x32x128_S1x32x128_1_0_0))

/-- The product of a grid point, from the matrix units' state `s`: of the weight block, the scale buffer, the tables and
    the permuted `x`. -/
def product (s : Mxu F) (W : Vec F S256x2048 .i8) (AM : Vec F S64x2x256 .bf16) (T : Vec F S2x32x128 .i8) (X : Vec F S128x4096 .bf16) :
    FVec F S128x256 .f32 :=
  popped (passes s (tile (tabLo (F := F) T) (tabHi (F := F) T) W AM) (cols X))

/-- The writes of the scale buffer's words. -/
abbrev amPieces (C : Vec F S256x64 .i8) (S : Vec F S1x1x64 .f32) (O : Vec F S1 .f32) : List (View.Piece (Elt F) S64x2x256 .bf16) :=
  [⟨Rect.unit ![0, 0, 0] S64x2x256.size inb_S64x2x256_S64x2x256_0_0_0, amOf C S O⟩]

/-- What the scale buffer then holds. -/
abbrev amRead : Vec F S64x2x256 .bf16 :=
  M11.view.read (Elt F) (M11.view.writes (Elt F) M11.view.junk (amPieces (M3.view.read (Elt F) f3) (M4.view.read (Elt F) f4) (M5.view.read (Elt F) f5)))

/-- The codes' writes, of a product. -/
abbrev codePieces (y : FVec F S128x256 .f32) : List (View.Piece (Elt F) S1x128x256 .fp8e4m3) :=
  [⟨Rect.unit ![0, 0, 128] S1x128x128.size inb_S1x128x256_S1x128x128_0_0_128, codesOf (group1 y)⟩,
   ⟨Rect.unit ![0, 0, 0] S1x128x128.size inb_S1x128x256_S1x128x128_0_0_0, codesOf (group0 y)⟩]

theorem rest_tabLo : runRest.sl.v88_r0 c M6 f6 = tabLo (F := F) (M6.view.read (Elt F) f6) := (rfl)
theorem rest_am : runRest.sl.H11_1 c M3 M4 M5 f3 f4 f5 = amPieces (M3.view.read (Elt F) f3) (M4.view.read (Elt F) f4) (M5.view.read (Elt F) f5) := (rfl)

/-- One chunk's passes from equal states, of equal tiles and equal columns. -/
theorem pass_congr {s s' : Mxu F} {q r : Fin 2} {t t' : FVec F S256x256 .bf16} {l l' : FVec F S128x256 .bf16} (hs : s = s') (ht : t = t') (hl : l = l') :
    (s.pushed q r false t).accLhs q r 0 l fits_0_128 = (s'.pushed q r false t').accLhs q r 0 l' fits_0_128 := by
  subst hs ht hl; rfl

/-- The matrix units after the sixteen chunks of a later point. -/
theorem rest_passes : runRest.sl.k0_mxu68 c M2 M3 M4 M5 M6 M10 M11 f2 f3 f4 f5 f6 f10
    = passes Mxu.init (tile (tabLo (F := F) (M6.view.read (Elt F) f6)) (tabHi (F := F) (M6.view.read (Elt F) f6)) (M2.view.read (Elt F) f2) (amRead c M3 M4 M5 M11 f3 f4 f5)) (cols (M10.view.read (Elt F) f10)) := by
  unfold passes chunks
  simp only [List.foldl_cons, List.foldl_nil]
  iterate 16 refine pass_congr ?_ rfl rfl
  rfl

/-- The product at a later point. -/
theorem rest_product : runRest.sl.r_1108 c M2 M3 M4 M5 M6 M10 M11 f2 f3 f4 f5 f6 f10
    = product Mxu.init (M2.view.read (Elt F) f2) (amRead c M3 M4 M5 M11 f3 f4 f5) (M6.view.read (Elt F) f6) (M10.view.read (Elt F) f10) := by
  unfold product; rw [← rest_passes]; rfl

/-- The codes at a later point. -/
theorem rest_codes : runRest.sl.H8_2 c M2 M3 M4 M5 M6 M10 M11 f2 f3 f4 f5 f6 f10
    = codePieces (runRest.sl.r_1108 c M2 M3 M4 M5 M6 M10 M11 f2 f3 f4 f5 f6 f10) := (rfl)

/-- The rectangle of the whole buffer of scales. -/
abbrev lanes : Rect S128x128 := Rect.unit ![0, 0] S128x128.size inb_S128x128_S128x128_0_0

/-- The writes of the scales of a product: the first group's, then the second's over what the first left. -/
abbrev scalePieces0 (y : FVec F S128x256 .f32) (prev : Vec F S128x128 .f32) : List (View.Piece (Elt F) S128x128 .f32) :=
  [⟨lanes, shapeCast S128x128 (putScale (BitVec.ofNat 32 (i 0).val) 0#32 (scaleOf (group0 y)) (View.ld prev lanes)) shapeCasts_S128x128_S128x128⟩]
abbrev scalePieces1 (y : FVec F S128x256 .f32) (prev : Vec F S128x128 .f32) : List (View.Piece (Elt F) S128x128 .f32) :=
  ⟨lanes, shapeCast S128x128 (putScale (BitVec.ofNat 32 (i 0).val) 1#32 (scaleOf (group1 y)) (M12.view.readCov (scalePieces0 i y prev) lanes.toLoadRect)) shapeCasts_S128x128_S128x128⟩
    :: scalePieces0 i y prev

/-- The scales at a later point. -/
theorem rest_scales : runRest.sl.H12_2 c i M2 M3 M4 M5 M6 M10 M11 M12 f2 f3 f4 f5 f6 f10 f12
    = scalePieces1 i M12 (runRest.sl.r_1108 c M2 M3 M4 M5 M6 M10 M11 f2 f3 f4 f5 f6 f10) (M12.view.read (Elt F) f12) := (rfl)

theorem step_state {X : Vec F S1x128x4096 .bf16} {a : Loaded F × List (View.Piece (Elt F) S128x4096 .bf16)} {k : Fin 16} {s : Mxu F}
    {h : (s.gmr (unitOf k)).isSome = true} (hs : a.1.1 = s) :
    (permStep X a k).1.1 = (s.accBy (unitOf k) ((s.gmr (unitOf k)).get h) 0 (xCols X k) fits_0_128).pop (unitOf k) 0 128 fits_0_128 := by
  subst hs; rfl

theorem step_pieces {X : Vec F S1x128x4096 .bf16} {a : Loaded F × List (View.Piece (Elt F) S128x4096 .bf16)} {k : Fin 16} {s : Mxu F}
    {L : List (View.Piece (Elt F) S128x4096 .bf16)} {h : (s.gmr (unitOf k)).isSome = true} (hs : a.1.1 = s) (hL : a.2 = L) :
    (permStep X a k).2 = permPiece k ((s.accBy (unitOf k) ((s.gmr (unitOf k)).get h) 0 (xCols X k) fits_0_128).read (unitOf k) 0 fits_0_128) :: L := by
  subst hs; subst hL; rfl

/-- The permutation at the first point: the units after each chunk. -/
theorem first_perm_state : (perm (M1.view.read (Elt F) f1) (M7.view.read (Elt F) f7)).1.1 = runFirst.sl.k0_mxu36 c M1 M7 f1 f7 := by
  unfold perm laterChunks
  simp only [List.foldl_cons, List.foldl_nil]
  iterate 14 refine (step_state ?_).trans rfl
  rfl
theorem first_perm : (perm (M1.view.read (Elt F) f1) (M7.view.read (Elt F) f7)).2 = runFirst.sl.H10_16 c M1 M7 f1 f7 := by
  unfold perm laterChunks
  simp only [List.foldl_cons, List.foldl_nil]
  repeat' first | refine (step_state ?_).trans rfl | refine (step_pieces ?_ ?_).trans rfl
  all_goals rfl

/-- The permuted `x` as the first point reads it back. -/
abbrev xpRead : Vec F S128x4096 .bf16 := M10.view.read (Elt F) (M10.view.writes (Elt F) M10.view.junk (runFirst.sl.H10_16 c M1 M7 f1 f7))

/-- The matrix units after the sixteen chunks of the first point. -/
theorem first_passes : runFirst.sl.k0_mxu68 c M1 M2 M3 M4 M5 M6 M7 M10 M11 f1 f2 f3 f4 f5 f6 f7
    = passes (runFirst.sl.k0_mxu36 c M1 M7 f1 f7) (tile (tabLo (F := F) (M6.view.read (Elt F) f6)) (tabHi (F := F) (M6.view.read (Elt F) f6)) (M2.view.read (Elt F) f2) (amRead c M3 M4 M5 M11 f3 f4 f5)) (cols (xpRead c M1 M7 M10 f1 f7)) := by
  unfold passes chunks
  simp only [List.foldl_cons, List.foldl_nil]
  iterate 16 refine pass_congr ?_ rfl rfl
  rfl

theorem first_product : runFirst.sl.r_1128 c M1 M2 M3 M4 M5 M6 M7 M10 M11 f1 f2 f3 f4 f5 f6 f7
    = product (runFirst.sl.k0_mxu36 c M1 M7 f1 f7) (M2.view.read (Elt F) f2) (amRead c M3 M4 M5 M11 f3 f4 f5) (M6.view.read (Elt F) f6) (xpRead c M1 M7 M10 f1 f7) := by
  unfold product; rw [← first_passes]; rfl

theorem first_codes : runFirst.sl.H8_2 c M1 M2 M3 M4 M5 M6 M7 M10 M11 f1 f2 f3 f4 f5 f6 f7
    = codePieces (runFirst.sl.r_1128 c M1 M2 M3 M4 M5 M6 M7 M10 M11 f1 f2 f3 f4 f5 f6 f7) := (rfl)

theorem first_scales : runFirst.sl.H12_2 c i M1 M2 M3 M4 M5 M6 M7 M10 M11 M12 f1 f2 f3 f4 f5 f6 f7 f12
    = scalePieces1 i M12 (runFirst.sl.r_1128 c M1 M2 M3 M4 M5 M6 M7 M10 M11 f1 f2 f3 f4 f5 f6 f7) (M12.view.read (Elt F) f12) := (rfl)

end Cert.KernelIdeal.Proof

end
-- ==== Proof.BodyValue.lean ====
/-
  What the body leaves in each buffer, at either kind of grid point, as functions of what it reads: the codes' tile,
  the scale buffer with two lanes replaced, the permuted `x` at the first point, the scales copied out at the last.
-/
module

public import proofs.«01_k».proof.Proof.Match
public import Idealize.ShloMosaic.Lib.Pipeline.ValueKit.Basic

@[expose] public section

set_option maxRecDepth 16384

noncomputable section

namespace Cert.KernelIdeal.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The scale buffer after a point: two lanes replaced by the two groups' scales. -/
def putScales (i : BitVec 32) (y : FVec F S128x256 .f32) (prev : Vec F S128x128 .f32) : Vec F S128x128 .f32 :=
  putScale i 1#32 (scaleOf (group1 y)) (putScale i 0#32 (scaleOf (group0 y)) prev)

/-- The scales copied out: the first 86 lanes. -/
def scalesOut (s : Vec F S128x128 .f32) : Vec F S1x128x86 .f32 :=
  k0_pay2 (View.ld s (Rect.unit ![0, 0] S128x86.size inb_S128x128_S128x86_0_0))

variable (c : Dev nD) (i : grid0.Coords)
    (M1 : Memref sig .tc .vmem S1x128x4096 .bf16) (h1 : M1.IsWhole)
    (M2 : Memref sig .tc .vmem S256x2048 .i8) (h2 : M2.IsWhole)
    (M3 : Memref sig .tc .vmem S256x64 .i8) (h3 : M3.IsWhole)
    (M4 : Memref sig .tc .vmem S1x1x64 .f32) (h4 : M4.IsWhole)
    (M5 : Memref sig .tc .smem S1 .f32) (h5 : M5.IsWhole)
    (M6 : Memref sig .tc .vmem S2x32x128 .i8) (h6 : M6.IsWhole)
    (M7 : Memref sig .tc .vmem S256x256 .bf16) (h7 : M7.IsWhole)
    (M8 : Memref sig .tc .vmem S1x128x256 .fp8e4m3) (h8 : M8.IsWhole)
    (M9 : Memref sig .tc .vmem S1x128x86 .f32) (h9 : M9.IsWhole)
    (M10 : Memref sig .tc .vmem S128x4096 .bf16) (h10 : M10.IsWhole)
    (M11 : Memref sig .tc .vmem S64x2x256 .bf16) (h11 : M11.IsWhole)
    (M12 : Memref sig .tc .vmem S128x128 .f32) (h12 : M12.IsWhole)
    (f1 : Bf (F := F) c M1) (f2 : Bf (F := F) c M2) (f3 : Bf (F := F) c M3) (f4 : Bf (F := F) c M4)
    (f5 : Bf (F := F) c M5) (f6 : Bf (F := F) c M6) (f7 : Bf (F := F) c M7) (f9 : Bf (F := F) c M9) (f10 : Bf (F := F) c M10) (f12 : Bf (F := F) c M12)

/-- The scale buffer's words read back. -/
theorem read_am : amRead c M3 M4 M5 M11 f3 f4 f5 = amOf (M3.view.read (Elt F) f3) (M4.view.read (Elt F) f4) (M5.view.read (Elt F) f5) :=
  (View.read_writes_eq_canon _ _ _ (fun y => View.cover_of_tiled _ ![64, 2, 256] (by rfl) y)).trans (View.canon_cons_unit_lit _ _ _ (by decide))

theorem read_codes (y : FVec F S128x256 .f32) (f) : M8.view.read (Elt F) (M8.view.writes (Elt F) f (codePieces y)) = View.canon (codePieces y) :=
  View.read_writes_eq_canon _ _ _ (fun y => View.cover_of_tiled _ ![1, 128, 128] (by rfl) y)

theorem read_scales (y : FVec F S128x256 .f32) (prev : Vec F S128x128 .f32) (f) :
    M12.view.read (Elt F) (M12.view.writes (Elt F) f (scalePieces1 i M12 y prev)) = putScales (BitVec.ofNat 32 (i 0).val) y prev := by
  refine (View.read_writes_eq_canon _ _ _ (fun y => View.cover_of_tiled _ ![128, 128] (by rfl) y)).trans ((View.canon_cons_unit_lit _ _ _ (by decide)).trans ?_)
  rw [shapeCast_self]
  unfold putScales
  congr 1
  refine (View.readCov_unit_lit _ _ _ (by decide)).trans ?_
  rw [shapeCast_self]
  congr 1
  exact View.ld_unit_lit _ _ (by decide)

/-- Every place of the permuted `x` is written by one of the chunks. -/
theorem perm_cover (X : Vec F S1x128x4096 .bf16) (P : Vec F S256x256 .bf16) (y : S128x4096.Idx) : ∃ p ∈ (perm X P).2, y ∈ p.1.set :=
  View.cover_of_tiled _ ![128, 256] (by rfl) y

theorem read_perm : xpRead c M1 M7 M10 f1 f7 = View.canon (perm (M1.view.read (Elt F) f1) (M7.view.read (Elt F) f7)).2 := by
  unfold xpRead
  rw [← first_perm]
  exact View.read_writes_eq_canon _ _ _ (perm_cover _ _)

theorem rest_y : runRest.sl.r_1108 c M2 M3 M4 M5 M6 M10 M11 f2 f3 f4 f5 f6 f10
    = product Mxu.init (M2.view.read (Elt F) f2) (amOf (M3.view.read (Elt F) f3) (M4.view.read (Elt F) f4) (M5.view.read (Elt F) f5)) (M6.view.read (Elt F) f6) (M10.view.read (Elt F) f10) := by
  rw [rest_product, read_am]

theorem rest_leaves8 (hc : ¬ first i = 1#1) : M8.view.read (Elt F) (runRest c i hc M1 h1 M2 h2 M3 h3 M4 h4 M5 h5 M6 h6 M7 h7 M8 h8 M9 h9 M10 h10 M11 h11 M12 h12 f2 f3 f4 f5 f6 f9 f10 f12).1.1
    = View.canon (codePieces (product Mxu.init (M2.view.read (Elt F) f2) (amOf (M3.view.read (Elt F) f3) (M4.view.read (Elt F) f4) (M5.view.read (Elt F) f5)) (M6.view.read (Elt F) f6) (M10.view.read (Elt F) f10))) := by
  rw [← rest_y c M2 M3 M4 M5 M6 M10 M11 f2 f3 f4 f5 f6 f10]
  exact (read_codes M8 _ _)

theorem rest_leaves12 (hc : ¬ first i = 1#1) : M12.view.read (Elt F) (runRest c i hc M1 h1 M2 h2 M3 h3 M4 h4 M5 h5 M6 h6 M7 h7 M8 h8 M9 h9 M10 h10 M11 h11 M12 h12 f2 f3 f4 f5 f6 f9 f10 f12).1.2.2
    = putScales (BitVec.ofNat 32 (i 0).val) (product Mxu.init (M2.view.read (Elt F) f2) (amOf (M3.view.read (Elt F) f3) (M4.view.read (Elt F) f4) (M5.view.read (Elt F) f5)) (M6.view.read (Elt F) f6) (M10.view.read (Elt F) f10)) (M12.view.read (Elt F) f12) := by
  rw [← rest_y c M2 M3 M4 M5 M6 M10 M11 f2 f3 f4 f5 f6 f10]
  refine .trans ?_ (read_scales i M12 _ _ M12.view.junk)
  rw [← rest_scales]; rfl

theorem rest_leaves9 (hc : ¬ first i = 1#1) (hl : k0_cond2 i = 1#1) : M9.view.read (Elt F) (runRest c i hc M1 h1 M2 h2 M3 h3 M4 h4 M5 h5 M6 h6 M7 h7 M8 h8 M9 h9 M10 h10 M11 h11 M12 h12 f2 f3 f4 f5 f6 f9 f10 f12).1.2.1
    = scalesOut (putScales (BitVec.ofNat 32 (i 0).val) (product Mxu.init (M2.view.read (Elt F) f2) (amOf (M3.view.read (Elt F) f3) (M4.view.read (Elt F) f4) (M5.view.read (Elt F) f5)) (M6.view.read (Elt F) f6) (M10.view.read (Elt F) f10)) (M12.view.read (Elt F) f12)) := by
  rw [← rest_leaves12 c i M1 h1 M2 h2 M3 h3 M4 h4 M5 h5 M6 h6 M7 h7 M8 h8 M9 h9 M10 h10 M11 h11 M12 h12 f2 f3 f4 f5 f6 f9 f10 f12 hc]
  refine (congrArg (M9.view.read (Elt F)) (dif_pos hl)).trans ?_
  rw [View.read_writes_eq_canon _ _ _ (fun y => View.cover_of_tiled _ ![1, 128, 86] (by rfl) y)]
  refine (View.canon_cons_unit_lit _ _ _ (by decide)).trans rfl

theorem rest_keeps9 (hc : ¬ first i = 1#1) (hl : ¬ k0_cond2 i = 1#1) : (runRest c i hc M1 h1 M2 h2 M3 h3 M4 h4 M5 h5 M6 h6 M7 h7 M8 h8 M9 h9 M10 h10 M11 h11 M12 h12 f2 f3 f4 f5 f6 f9 f10 f12).1.2.1 = f9 := dif_neg hl

theorem first_y : runFirst.sl.r_1128 c M1 M2 M3 M4 M5 M6 M7 M10 M11 f1 f2 f3 f4 f5 f6 f7
    = product (perm (M1.view.read (Elt F) f1) (M7.view.read (Elt F) f7)).1.1 (M2.view.read (Elt F) f2) (amOf (M3.view.read (Elt F) f3) (M4.view.read (Elt F) f4) (M5.view.read (Elt F) f5)) (M6.view.read (Elt F) f6) (View.canon (perm (M1.view.read (Elt F) f1) (M7.view.read (Elt F) f7)).2) := by
  rw [first_product, read_am, read_perm, ← first_perm_state]

theorem first_leaves8 (hc : first i = 1#1) : M8.view.read (Elt F) (runFirst c i hc M1 h1 M2 h2 M3 h3 M4 h4 M5 h5 M6 h6 M7 h7 M8 h8 M9 h9 M10 h10 M11 h11 M12 h12 f1 f2 f3 f4 f5 f6 f7 f9 f12).1.1
    = View.canon (codePieces (product (perm (M1.view.read (Elt F) f1) (M7.view.read (Elt F) f7)).1.1 (M2.view.read (Elt F) f2) (amOf (M3.view.read (Elt F) f3) (M4.view.read (Elt F) f4) (M5.view.read (Elt F) f5)) (M6.view.read (Elt F) f6) (View.canon (perm (M1.view.read (Elt F) f1) (M7.view.read (Elt F) f7)).2))) := by
  rw [← first_y c M1 M2 M3 M4 M5 M6 M7 M10 M11 f1 f2 f3 f4 f5 f6 f7]
  exact (read_codes M8 _ _)

theorem first_leaves12 (hc : first i = 1#1) : M12.view.read (Elt F) (runFirst c i hc M1 h1 M2 h2 M3 h3 M4 h4 M5 h5 M6 h6 M7 h7 M8 h8 M9 h9 M10 h10 M11 h11 M12 h12 f1 f2 f3 f4 f5 f6 f7 f9 f12).1.2.2.2
    = putScales (BitVec.ofNat 32 (i 0).val) (product (perm (M1.view.read (Elt F) f1) (M7.view.read (Elt F) f7)).1.1 (M2.view.read (Elt F) f2) (amOf (M3.view.read (Elt F) f3) (M4.view.read (Elt F) f4) (M5.view.read (Elt F) f5)) (M6.view.read (Elt F) f6) (View.canon (perm (M1.view.read (Elt F) f1) (M7.view.read (Elt F) f7)).2)) (M12.view.read (Elt F) f12) := by
  rw [← first_y c M1 M2 M3 M4 M5 M6 M7 M10 M11 f1 f2 f3 f4 f5 f6 f7]
  refine .trans ?_ (read_scales i M12 _ _ M12.view.junk)
  rw [← first_scales]; rfl

theorem first_leaves9 (hc : first i = 1#1) (hl : k0_cond2 i = 1#1) : M9.view.read (Elt F) (runFirst c i hc M1 h1 M2 h2 M3 h3 M4 h4 M5 h5 M6 h6 M7 h7 M8 h8 M9 h9 M10 h10 M11 h11 M12 h12 f1 f2 f3 f4 f5 f6 f7 f9 f12).1.2.1
    = scalesOut (putScales (BitVec.ofNat 32 (i 0).val) (product (perm (M1.view.read (Elt F) f1) (M7.view.read (Elt F) f7)).1.1 (M2.view.read (Elt F) f2) (amOf (M3.view.read (Elt F) f3) (M4.view.read (Elt F) f4) (M5.view.read (Elt F) f5)) (M6.view.read (Elt F) f6) (View.canon (perm (M1.view.read (Elt F) f1) (M7.view.read (Elt F) f7)).2)) (M12.view.read (Elt F) f12)) := by
  rw [← first_leaves12 c i M1 h1 M2 h2 M3 h3 M4 h4 M5 h5 M6 h6 M7 h7 M8 h8 M9 h9 M10 h10 M11 h11 M12 h12 f1 f2 f3 f4 f5 f6 f7 f9 f12 hc]
  refine (congrArg (M9.view.read (Elt F)) (dif_pos hl)).trans ?_
  rw [View.read_writes_eq_canon _ _ _ (fun y => View.cover_of_tiled _ ![1, 128, 86] (by rfl) y)]
  refine (View.canon_cons_unit_lit _ _ _ (by decide)).trans rfl

theorem first_keeps9 (hc : first i = 1#1) (hl : ¬ k0_cond2 i = 1#1) : (runFirst c i hc M1 h1 M2 h2 M3 h3 M4 h4 M5 h5 M6 h6 M7 h7 M8 h8 M9 h9 M10 h10 M11 h11 M12 h12 f1 f2 f3 f4 f5 f6 f7 f9 f12).1.2.1 = f9 := dif_neg hl

theorem first_leaves10 (hc : first i = 1#1) : M10.view.read (Elt F) (runFirst c i hc M1 h1 M2 h2 M3 h3 M4 h4 M5 h5 M6 h6 M7 h7 M8 h8 M9 h9 M10 h10 M11 h11 M12 h12 f1 f2 f3 f4 f5 f6 f7 f9 f12).1.2.2.1 = View.canon (perm (M1.view.read (Elt F) f1) (M7.view.read (Elt F) f7)).2 :=
  read_perm c M1 M7 M10 f1 f7

/-- The body at a later point, with what it leaves. -/
theorem exact_rest (hc : ¬ first i = 1#1) : ∃ (W8 : Bf (F := F) c M8) (W9 : Bf (F := F) c M9) (W12 : Bf (F := F) c M12),
    M8.view.read (Elt F) W8 = View.canon (codePieces (product Mxu.init (M2.view.read (Elt F) f2) (amOf (M3.view.read (Elt F) f3) (M4.view.read (Elt F) f4) (M5.view.read (Elt F) f5)) (M6.view.read (Elt F) f6) (M10.view.read (Elt F) f10)))
      ∧ M12.view.read (Elt F) W12 = putScales (BitVec.ofNat 32 (i 0).val) (product Mxu.init (M2.view.read (Elt F) f2) (amOf (M3.view.read (Elt F) f3) (M4.view.read (Elt F) f4) (M5.view.read (Elt F) f5)) (M6.view.read (Elt F) f6) (M10.view.read (Elt F) f10)) (M12.view.read (Elt F) f12)
      ∧ (k0_cond2 i = 1#1 → M9.view.read (Elt F) W9 = scalesOut (putScales (BitVec.ofNat 32 (i 0).val) (product Mxu.init (M2.view.read (Elt F) f2) (amOf (M3.view.read (Elt F) f3) (M4.view.read (Elt F) f4) (M5.view.read (Elt F) f5)) (M6.view.read (Elt F) f6) (M10.view.read (Elt F) f10)) (M12.view.read (Elt F) f12)))
      ∧ (¬ k0_cond2 i = 1#1 → W9 = f9)
      ∧ ∀ (f1 : Bf (F := F) c M1) (f7 : Bf (F := F) c M7) (f8 : Bf (F := F) c M8) (f11 : Bf (F := F) c M11) (E : Set ℕ) (Q : PUnit → sProp (MT nD τ sig Unit (Elt F) ℕ (UR nD τ) ℕ)),
        iprop(pt c M1 f1 ∗ pt c M2 f2 ∗ pt c M3 f3 ∗ pt c M4 f4 ∗ pt c M5 f5 ∗ pt c M6 f6 ∗ pt c M7 f7 ∗ pt c M8 f8
          ∗ pt c M9 f9 ∗ pt c M10 f10 ∗ pt c M11 f11 ∗ pt c M12 f12
          ∗ (iprop(pt c M1 f1 ∗ pt c M2 f2 ∗ pt c M3 f3 ∗ pt c M4 f4 ∗ pt c M5 f5 ∗ pt c M6 f6 ∗ pt c M7 f7
              ∗ pt c M8 W8 ∗ pt c M9 W9 ∗ pt c M10 f10 ∗ (∃ f, pt c M11 f) ∗ pt c M12 W12) -∗ Q ⟨⟩))
        ⊢ wp frame (wpE (defs₀ (F := F)) Variants.none c none) E
            (cc0_nf4_linear i M1 h1 M2 h2 M3 h3 M4 h4 M5 h5 M6 h6 M7 h7 M8 h8 M9 h9 M10 h10 M11 h11 M12 h12) Q :=
  ⟨_, _, _, rest_leaves8 c i M1 h1 M2 h2 M3 h3 M4 h4 M5 h5 M6 h6 M7 h7 M8 h8 M9 h9 M10 h10 M11 h11 M12 h12 f2 f3 f4 f5 f6 f9 f10 f12 hc, rest_leaves12 c i M1 h1 M2 h2 M3 h3 M4 h4 M5 h5 M6 h6 M7 h7 M8 h8 M9 h9 M10 h10 M11 h11 M12 h12 f2 f3 f4 f5 f6 f9 f10 f12 hc, rest_leaves9 c i M1 h1 M2 h2 M3 h3 M4 h4 M5 h5 M6 h6 M7 h7 M8 h8 M9 h9 M10 h10 M11 h11 M12 h12 f2 f3 f4 f5 f6 f9 f10 f12 hc, rest_keeps9 c i M1 h1 M2 h2 M3 h3 M4 h4 M5 h5 M6 h6 M7 h7 M8 h8 M9 h9 M10 h10 M11 h11 M12 h12 f2 f3 f4 f5 f6 f9 f10 f12 hc, (runRest c i hc M1 h1 M2 h2 M3 h3 M4 h4 M5 h5 M6 h6 M7 h7 M8 h8 M9 h9 M10 h10 M11 h11 M12 h12 f2 f3 f4 f5 f6 f9 f10 f12).2⟩

/-- The body at the first point, with what it leaves. -/
theorem exact_first (hc : first i = 1#1) : ∃ (W8 : Bf (F := F) c M8) (W9 : Bf (F := F) c M9) (W10 : Bf (F := F) c M10) (W12 : Bf (F := F) c M12),
    M8.view.read (Elt F) W8 = View.canon (codePieces (product (perm (M1.view.read (Elt F) f1) (M7.view.read (Elt F) f7)).1.1 (M2.view.read (Elt F) f2) (amOf (M3.view.read (Elt F) f3) (M4.view.read (Elt F) f4) (M5.view.read (Elt F) f5)) (M6.view.read (Elt F) f6) (View.canon (perm (M1.view.read (Elt F) f1) (M7.view.read (Elt F) f7)).2)))
      ∧ M12.view.read (Elt F) W12 = putScales (BitVec.ofNat 32 (i 0).val) (product (perm (M1.view.read (Elt F) f1) (M7.view.read (Elt F) f7)).1.1 (M2.view.read (Elt F) f2) (amOf (M3.view.read (Elt F) f3) (M4.view.read (Elt F) f4) (M5.view.read (Elt F) f5)) (M6.view.read (Elt F) f6) (View.canon (perm (M1.view.read (Elt F) f1) (M7.view.read (Elt F) f7)).2)) (M12.view.read (Elt F) f12)
      ∧ (k0_cond2 i = 1#1 → M9.view.read (Elt F) W9 = scalesOut (putScales (BitVec.ofNat 32 (i 0).val) (product (perm (M1.view.read (Elt F) f1) (M7.view.read (Elt F) f7)).1.1 (M2.view.read (Elt F) f2) (amOf (M3.view.read (Elt F) f3) (M4.view.read (Elt F) f4) (M5.view.read (Elt F) f5)) (M6.view.read (Elt F) f6) (View.canon (perm (M1.view.read (Elt F) f1) (M7.view.read (Elt F) f7)).2)) (M12.view.read (Elt F) f12)))
      ∧ (¬ k0_cond2 i = 1#1 → W9 = f9)
      ∧ M10.view.read (Elt F) W10 = View.canon (perm (M1.view.read (Elt F) f1) (M7.view.read (Elt F) f7)).2
      ∧ ∀ (f8 : Bf (F := F) c M8) (f10 : Bf (F := F) c M10) (f11 : Bf (F := F) c M11) (E : Set ℕ) (Q : PUnit → sProp (MT nD τ sig Unit (Elt F) ℕ (UR nD τ) ℕ)),
        iprop(pt c M1 f1 ∗ pt c M2 f2 ∗ pt c M3 f3 ∗ pt c M4 f4 ∗ pt c M5 f5 ∗ pt c M6 f6 ∗ pt c M7 f7 ∗ pt c M8 f8
          ∗ pt c M9 f9 ∗ pt c M10 f10 ∗ pt c M11 f11 ∗ pt c M12 f12
          ∗ (iprop(pt c M1 f1 ∗ pt c M2 f2 ∗ pt c M3 f3 ∗ pt c M4 f4 ∗ pt c M5 f5 ∗ pt c M6 f6 ∗ pt c M7 f7
              ∗ pt c M8 W8 ∗ pt c M9 W9 ∗ pt c M10 W10 ∗ (∃ f, pt c M11 f) ∗ pt c M12 W12) -∗ Q ⟨⟩))
        ⊢ wp frame (wpE (defs₀ (F := F)) Variants.none c none) E
            (cc0_nf4_linear i M1 h1 M2 h2 M3 h3 M4 h4 M5 h5 M6 h6 M7 h7 M8 h8 M9 h9 M10 h10 M11 h11 M12 h12) Q :=
  ⟨_, _, _, _, first_leaves8 c i M1 h1 M2 h2 M3 h3 M4 h4 M5 h5 M6 h6 M7 h7 M8 h8 M9 h9 M10 h10 M11 h11 M12 h12 f1 f2 f3 f4 f5 f6 f7 f9 f12 hc, first_leaves12 c i M1 h1 M2 h2 M3 h3 M4 h4 M5 h5 M6 h6 M7 h7 M8 h8 M9 h9 M10 h10 M11 h11 M12 h12 f1 f2 f3 f4 f5 f6 f7 f9 f12 hc, first_leaves9 c i M1 h1 M2 h2 M3 h3 M4 h4 M5 h5 M6 h6 M7 h7 M8 h8 M9 h9 M10 h10 M11 h11 M12 h12 f1 f2 f3 f4 f5 f6 f7 f9 f12 hc, first_keeps9 c i M1 h1 M2 h2 M3 h3 M4 h4 M5 h5 M6 h6 M7 h7 M8 h8 M9 h9 M10 h10 M11 h11 M12 h12 f1 f2 f3 f4 f5 f6 f7 f9 f12 hc, first_leaves10 c i M1 h1 M2 h2 M3 h3 M4 h4 M5 h5 M6 h6 M7 h7 M8 h8 M9 h9 M10 h10 M11 h11 M12 h12 f1 f2 f3 f4 f5 f6 f7 f9 f12 hc, (runFirst c i hc M1 h1 M2 h2 M3 h3 M4 h4 M5 h5 M6 h6 M7 h7 M8 h8 M9 h9 M10 h10 M11 h11 M12 h12 f1 f2 f3 f4 f5 f6 f7 f9 f12).2⟩

end Cert.KernelIdeal.Proof

end
-- ==== Proof.IdealRun.lean ====
/-
  The run of the idealized kernel with the contents of both results: from point to point the scratch buffer of the
  permuted `x` is kept, and the lanes of the scale buffer below twice the point's number hold the scales computed so
  far. The tile of codes is written back at every point, the scales at the last.
-/
module

public import proofs.«01_k».proof.Proof.IdealFrame
public import proofs.«01_k».proof.Proof.BodyValue

@[expose] public section

set_option maxRecDepth 16384

noncomputable section

namespace Cert.KernelIdeal.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Proof.UR nD τ) ℕ

variable (m : (ℓ : Loc nD τ sig) → Buf (Elt F) ℓ) (ρ : Dev nD → PrngReg)

/-- The first point. -/
abbrev point0 : Fin cfg0.N := ⟨0, by decide⟩

/-- The permutation of `x`: the matrix units after it, and its writes. -/
def permAt (c : Dev nD) : Loaded F × List (View.Piece (Elt F) S128x4096 .bf16) := perm (iblk m c 0 point0) (iblk m c 6 point0)

/-- The permuted `x`. -/
def xpAt (c : Dev nD) : Vec F S128x4096 .bf16 := View.canon (permAt m c).2

/-- The matrix units before the chunks of point `t`. -/
def startAt (c : Dev nD) (t : Fin cfg0.N) : Mxu F := if t.val = 0 then (permAt m c).1.1 else Mxu.init

/-- The product of point `t`. -/
def yAt (c : Dev nD) (t : Fin cfg0.N) : FVec F S128x256 .f32 :=
  product (startAt m c t) (iblk m c 1 t) (amOf (iblk m c 2 t) (iblk m c 3 t) (iblk m c 4 t)) (iblk m c 5 t) (xpAt m c)

/-- The point whose product's scale lane `l` holds. -/
def pointOf (l : Fin 128) : Fin cfg0.N := if h : l.val / 2 < 43 then ⟨l.val / 2, h⟩ else point0

/-- The scale buffer once every point has run: lane `l` the scale of group `l % 2` of point `l / 2`. -/
def scalesAt (c : Dev nD) : Vec F S128x128 .f32 := fun j =>
  if (j 1).val % 2 = 0 then scaleOf (group0 (yAt m c (pointOf (j 1)))) j else scaleOf (group1 (yAt m c (pointOf (j 1)))) j

/-- The lanes below `n` hold their scales. -/
def Scaled (c : Dev nD) (n : Nat) (f : Vec F S128x128 .f32) : Prop := ∀ j : S128x128.Idx, (j 1).val < n → f j = scalesAt m c j

/-- The invariant before point `t`. -/
def Inv (c : Dev nD) (t : Fin (cfg0.N + 1)) : sProp 𝕄 :=
  iprop((∃ f10 f11 f12, pt c (Memref.whole cc0_scratch0) f10 ∗ pt c (Memref.whole cc0_scratch1) f11 ∗ pt c (Memref.whole cc0_scratch2) f12
      ∗ ⌜(t.val ≠ 0 → (Memref.whole cc0_scratch0).view.read (Elt F) f10 = xpAt m c) ∧ Scaled m c (2 * t.val) ((Memref.whole cc0_scratch2).view.read (Elt F) f12)⌝)
    ∗ ∃ r, prngReg c r)

/-- The proof data. -/
def dats (_ : Fin 1) (c : Dev nD) : Dat τ (Elt F) Unit ℕ (Proof.UR nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => View.canon (codePieces (yAt m c t))
    | ⟨8, _⟩ => scalesOut (scalesAt m c)
  Φ t := Inv m c t
  q _ := fullShare
  owed _ := 0

theorem dats_A (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = View.canon (codePieces (yAt m c t)) := by dsimp only [dats]
theorem after0_8 (c : Dev nD) (t : Fin cfg0.N) : (dats m 0 c).after 8 t = scalesOut (scalesAt m c) := by dsimp only [dats]
theorem before0_0 (c : Dev nD) (t : Fin cfg0.N) (d) : (dats m 0 c).before 0 t d = iblk m c 0 t :=
  before0_0_of m (dats m 0 c) (dats_A m c 0) (after0_0 m c) t d
theorem before0_1 (c : Dev nD) (t : Fin cfg0.N) (d) : (dats m 0 c).before 1 t d = iblk m c 1 t :=
  before0_1_of m (dats m 0 c) (dats_A m c 1) (after0_1 m c) t d
theorem before0_2 (c : Dev nD) (t : Fin cfg0.N) (d) : (dats m 0 c).before 2 t d = iblk m c 2 t :=
  before0_2_of m (dats m 0 c) (dats_A m c 2) (after0_2 m c) t d
theorem before0_3 (c : Dev nD) (t : Fin cfg0.N) (d) : (dats m 0 c).before 3 t d = iblk m c 3 t :=
  before0_3_of m (dats m 0 c) (dats_A m c 3) (after0_3 m c) t d
theorem before0_4 (c : Dev nD) (t : Fin cfg0.N) (d) : (dats m 0 c).before 4 t d = iblk m c 4 t :=
  before0_4_of m (dats m 0 c) (dats_A m c 4) (after0_4 m c) t d
theorem before0_5 (c : Dev nD) (t : Fin cfg0.N) (d) : (dats m 0 c).before 5 t d = iblk m c 5 t :=
  before0_5_of m (dats m 0 c) (dats_A m c 5) (after0_5 m c) t d
theorem before0_6 (c : Dev nD) (t : Fin cfg0.N) (d) : (dats m 0 c).before 6 t d = iblk m c 6 t :=
  before0_6_of m (dats m 0 c) (dats_A m c 6) (after0_6 m c) t d

/-- The inputs with one block are the same at every point. -/
theorem iblk_const0 (c : Dev nD) (t : Fin cfg0.N) : iblk m c 0 t = iblk m c 0 point0 := rfl
theorem iblk_const6 (c : Dev nD) (t : Fin cfg0.N) : iblk m c 6 t = iblk m c 6 point0 := rfl

/-- The conditions of the body, by the point's number. -/
theorem first_iff : ∀ t : Fin cfg0.N, first (grid0.coords t) = 1#1 ↔ t.val = 0 := by decide +kernel
theorem last_iff : ∀ t : Fin cfg0.N, k0_cond2 (grid0.coords t) = 1#1 ↔ t.val = 42 := by decide +kernel
theorem coord_val : ∀ t : Fin cfg0.N, (grid0.coords t 0).val = t.val := by decide +kernel

/-- A lane's write. -/
theorem putScale_apply (t : Nat) (ht : t < 43) (g : Nat) (hg : g < 2) (s prev : FVec F S128x128 .f32) (j : S128x128.Idx) :
    putScale (BitVec.ofNat 32 t) (BitVec.ofNat 32 g) s prev j = if (j 1).val = 2 * t + g then s j else prev j := by
  have hj : (j 1).val < 128 := (j 1).isLt
  have hw : Scalar.addi (Scalar.muli 2#32 (BitVec.ofNat 32 t)) (BitVec.ofNat 32 g) = BitVec.ofNat 32 (2 * t + g) := by
    apply BitVec.eq_of_toNat_eq
    show (2#32 * BitVec.ofNat 32 t + BitVec.ofNat 32 g).toNat = _
    simp only [BitVec.toNat_add, BitVec.toNat_mul, BitVec.toNat_ofNat]
    omega
  unfold putScale
  rw [hw]
  show (if BitVec.ofBool (BitVec.ofNat 32 (0 * 128 + (j 1).val) == BitVec.ofNat 32 (2 * t + g)) = 1#1 then s j else prev j) = _
  by_cases h : (j 1).val = 2 * t + g
  · rw [if_pos h, if_pos]; rw [Nat.zero_mul, Nat.zero_add, h]; simp
  · rw [if_neg h, if_neg]
    intro hb
    apply h
    have hb' : (BitVec.ofNat 32 (0 * 128 + (j 1).val) == BitVec.ofNat 32 (2 * t + g)) = true := by
      cases hx : (BitVec.ofNat 32 (0 * 128 + (j 1).val) == BitVec.ofNat 32 (2 * t + g))
      · rw [hx] at hb; exact absurd hb (by decide)
      · rfl
    have := congrArg BitVec.toNat (eq_of_beq hb')
    simp only [BitVec.toNat_ofNat] at this
    omega

/-- After point `t` two more lanes hold their scales. -/
theorem scaled_step (c : Dev nD) (t : Fin cfg0.N) (f : Vec F S128x128 .f32) (h : Scaled m c (2 * t.val) f) :
    Scaled m c (2 * (t.val + 1)) (putScales (BitVec.ofNat 32 (grid0.coords t 0).val) (yAt m c t) f) := by
  have ht : t.val < 43 := t.isLt
  intro j hj
  unfold putScales
  rw [coord_val, show (1#32) = BitVec.ofNat 32 1 from rfl, show (0#32) = BitVec.ofNat 32 0 from rfl,
    putScale_apply _ ht 1 (by decide), putScale_apply _ ht 0 (by decide)]
  unfold scalesAt
  by_cases h1 : (j 1).val = 2 * t.val + 1
  · have hp : pointOf (j 1) = t := by
      unfold pointOf; rw [dif_pos (by omega)]; exact Fin.ext (by show _ / 2 = _; omega)
    rw [if_pos h1, if_neg (by omega), hp]
  · rw [if_neg h1]
    by_cases h0 : (j 1).val = 2 * t.val + 0
    · have hp : pointOf (j 1) = t := by
        unfold pointOf; rw [dif_pos (by omega)]; exact Fin.ext (by show _ / 2 = _; omega)
      rw [if_pos h0, if_pos (by omega), hp]
    · rw [if_neg h0]; exact h j (by omega)

/-- What the body leaves in the scales' buffer: at a point where it does not write them, what it found. -/
def post8 (c : Dev nD) (t : Fin cfg0.N) : sProp 𝕄 :=
  match cfg0.idle 8 (cfg0.grid.coords t) with
  | true =>
    match (cfg0.win 8).flush t with
    | false => iprop(∃ d, owns (c : Thread nD τ) (st0_8 t) fullShare ((dats m 0 c).before 8 t d))
    | true => owns (c : Thread nD τ) (st0_8 t) fullShare ((dats m 0 c).after 8 t)
  | false => owns (c : Thread nD τ) (st0_8 t) fullShare ((dats m 0 c).after 8 t)

theorem post8_last (c : Dev nD) (t : Fin cfg0.N) (h : t.val = 42) :
    post8 m c t = owns (c : Thread nD τ) (st0_8 t) fullShare ((dats m 0 c).after 8 t) := by
  unfold post8
  have hi : cfg0.idle 8 (cfg0.grid.coords t) = false := by
    show (!(k0_cond2 (grid0.coords t) == 1#1)) = false
    rw [(last_iff t).mpr h]; rfl
  rw [hi]

theorem post8_other (c : Dev nD) (t : Fin cfg0.N) (h : ¬ t.val = 42) :
    post8 m c t = iprop(∃ d, owns (c : Thread nD τ) (st0_8 t) fullShare ((dats m 0 c).before 8 t d)) := by
  unfold post8
  have hi : cfg0.idle 8 (cfg0.grid.coords t) = true := by
    show (!(k0_cond2 (grid0.coords t) == 1#1)) = true
    rw [Bool.not_eq_true', beq_eq_false_iff_ne]
    exact fun e => h ((last_iff t).mp e)
  have hf : (cfg0.win 8).flush t = false := by
    rw [Bool.eq_false_iff]
    intro e
    have h1 := (flush0_8 t).mp e
    have h2 : t.val < 43 := t.isLt
    omega
  rw [hi, hf]

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ post8 m c t)

/-- The fragment of a whole memref's ownership that names its contents. -/
theorem pt_of_owns' (c : Dev nD) {sp : Space} {S : Shape} {e : EltTy} (M : Memref sig .tc sp S e) (h : M.IsWhole) (X : S.Idx → Elt F e) :
    (owns (c : Thread nD τ) M fullShare X : sProp 𝕄) ⊢ iprop(∃ f, ⌜M.view.read (Elt F) f = X⌝ ∗ pt c M f) := by
  unfold owns pt; rw [h.set_eq_univ]

theorem owns_of_pt' (c : Dev nD) {sp : Space} {S : Shape} {e : EltTy} (M : Memref sig .tc sp S e) (h : M.IsWhole) (X : S.Idx → Elt F e) (f : Bf (F := F) c M)
    (hf : M.view.read (Elt F) f = X) : (pt c M f : sProp 𝕄) ⊢ owns (c : Thread nD τ) M fullShare X := by
  subst hf; exact owns_of_pt c M h f

/-- The scales copied out at the last point are all there. -/
theorem out_last (c : Dev nD) (f : Vec F S128x128 .f32) (t : Fin cfg0.N) (ht : t.val = 42) (h : Scaled m c (2 * (t.val + 1)) f) :
    scalesOut f = scalesOut (scalesAt m c) := by
  unfold scalesOut
  congr 1
  funext j
  have hj : (j 1).val < 86 := (j 1).isLt
  exact h _ (Nat.lt_of_le_of_lt (Nat.le_of_eq (show _ = 0 + 1 * (j 1).val from rfl)) (by omega))

set_option maxHeartbeats 4000000 in
/-- The body at a point, from the invariant before it to the invariant after it. -/
theorem sound_exact (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Inv m c t.succ from rfl, show (dats m 0 c).Φ t.castSucc = Inv m c t.castSucc from rfl,
    show (dats m 0 c).owesAt () t.succ = (dats m 0 c).owesAt () t.castSucc from rfl,
    after0_0, after0_1, after0_2, after0_3, after0_4, after0_5, after0_6, after0_7]
  unfold Inv
  iintro ⟨⟨⟨%g0, %g1, %g2, S0, S1, S2, %hinv⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨hx, hs⟩ := hinv
  ihave G0 := (pt_of_owns' c (st0_0 t) (stage_whole0 0 _) _) $$ H0
  icases G0 with ⟨%f0, %e0, H0⟩
  ihave G1 := (pt_of_owns' c (st0_1 t) (stage_whole0 1 _) _) $$ H1
  icases G1 with ⟨%f1, %e1, H1⟩
  ihave G2 := (pt_of_owns' c (st0_2 t) (stage_whole0 2 _) _) $$ H2
  icases G2 with ⟨%f2, %e2, H2⟩
  ihave G3 := (pt_of_owns' c (st0_3 t) (stage_whole0 3 _) _) $$ H3
  icases G3 with ⟨%f3, %e3, H3⟩
  ihave G4 := (pt_of_owns' c (st0_4 t) (stage_whole0 4 _) _) $$ H4
  icases G4 with ⟨%f4, %e4, H4⟩
  ihave G5 := (pt_of_owns' c (st0_5 t) (stage_whole0 5 _) _) $$ H5
  icases G5 with ⟨%f5, %e5, H5⟩
  ihave G6 := (pt_of_owns' c (st0_6 t) (stage_whole0 6 _) _) $$ H6
  icases G6 with ⟨%f6, %e6, H6⟩
  ihave G7 := (pt_of_owns' c (st0_7 t) (stage_whole0 7 _) _) $$ H7
  icases G7 with ⟨%f7, %e7, H7⟩
  ihave G8 := (pt_of_owns' c (st0_8 t) (stage_whole0 8 _) _) $$ H8
  icases G8 with ⟨%f8, %e8, H8⟩
  replace e0 := e0.trans (before0_0 m c t _)
  replace e1 := e1.trans (before0_1 m c t _)
  replace e2 := e2.trans (before0_2 m c t _)
  replace e3 := e3.trans (before0_3 m c t _)
  replace e4 := e4.trans (before0_4 m c t _)
  replace e5 := e5.trans (before0_5 m c t _)
  replace e6 := e6.trans (before0_6 m c t _)
  by_cases ht : t.val = 0
  · have hc : first (grid0.coords t) = 1#1 := (first_iff t).mpr ht
    obtain ⟨W8, W9, W10, W12, l8, l12, l9, k9, l10, R⟩ := exact_first c (grid0.coords t) (st0_0 t) (stage_whole0 0 _) (st0_1 t) (stage_whole0 1 _) (st0_2 t) (stage_whole0 2 _) (st0_3 t) (stage_whole0 3 _) (st0_4 t) (stage_whole0 4 _) (st0_5 t) (stage_whole0 5 _) (st0_6 t) (stage_whole0 6 _) (st0_7 t) (stage_whole0 7 _) (st0_8 t) (stage_whole0 8 _) (Memref.whole cc0_scratch0) (Memref.isWhole_whole _) (Memref.whole cc0_scratch1) (Memref.isWhole_whole _) (Memref.whole cc0_scratch2) (Memref.isWhole_whole _) f0 f1 f2 f3 f4 f5 f6 f8 g2 hc
    rw [e0, e6, iblk_const0, iblk_const6] at l10
    rw [e0, e6, e1, e2, e3, e4, e5, iblk_const0, iblk_const6] at l8 l12 l9
    have hy : product (permAt m c).1.1 (iblk m c 1 t) (amOf (iblk m c 2 t) (iblk m c 3 t) (iblk m c 4 t)) (iblk m c 5 t) (xpAt m c) = yAt m c t := by
      unfold yAt startAt; rw [if_pos ht]
    unfold xpAt permAt at hy
    rw [hy] at l8 l12 l9
    have hxp : _ = xpAt m c := l10
    have hs' := scaled_step m c t _ hs
    rw [← l12] at hs'
    iapply (R f7 g0 g1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    iintro ⟨H0, H1, H2, H3, H4, H5, H6, H7, H8, S0, ⟨%g1', S1⟩, S2⟩
    isplitl [S0 S1 S2 Hr]
    · isplitl [S0 S1 S2]
      · iexists _, _, _
        isplitl [S0]; · iexact S0
        isplitl [S1]; · iexact S1
        isplitl [S2]; · iexact S2
        ipureintro
        exact ⟨fun _ => hxp, hs'⟩
      · iexact Hr
    isplitl [Ho]; · iexact Ho
    isplitl [H0]; · iapply (owns_of_pt' c (st0_0 t) (stage_whole0 0 _) _ _ e0); iexact H0
    isplitl [H1]; · iapply (owns_of_pt' c (st0_1 t) (stage_whole0 1 _) _ _ e1); iexact H1
    isplitl [H2]; · iapply (owns_of_pt' c (st0_2 t) (stage_whole0 2 _) _ _ e2); iexact H2
    isplitl [H3]; · iapply (owns_of_pt' c (st0_3 t) (stage_whole0 3 _) _ _ e3); iexact H3
    isplitl [H4]; · iapply (owns_of_pt' c (st0_4 t) (stage_whole0 4 _) _ _ e4); iexact H4
    isplitl [H5]; · iapply (owns_of_pt' c (st0_5 t) (stage_whole0 5 _) _ _ e5); iexact H5
    isplitl [H6]; · iapply (owns_of_pt' c (st0_6 t) (stage_whole0 6 _) _ _ e6); iexact H6
    isplitl [H7]; · iapply (owns_of_pt' c (st0_7 t) (stage_whole0 7 _) _ _ l8); iexact H7
    by_cases hl : t.val = 42
    · rw [post8_last m c t hl, after0_8]
      iapply (owns_of_pt' c (st0_8 t) (stage_whole0 8 _) _ _ ((l9 ((last_iff t).mpr hl)).trans (out_last m c _ t hl (l12 ▸ hs')))); iexact H8
    · rw [post8_other m c t hl]
      iexists d8
      iapply (owns_of_pt' c (st0_8 t) (stage_whole0 8 _) _ _ ((congrArg _ (k9 fun e => hl ((last_iff t).mp e))).trans e8)); iexact H8
  · have hc : ¬ first (grid0.coords t) = 1#1 := fun e => ht ((first_iff t).mp e)
    obtain ⟨W8, W9, W12, l8, l12, l9, k9, R⟩ := exact_rest c (grid0.coords t) (st0_0 t) (stage_whole0 0 _) (st0_1 t) (stage_whole0 1 _) (st0_2 t) (stage_whole0 2 _) (st0_3 t) (stage_whole0 3 _) (st0_4 t) (stage_whole0 4 _) (st0_5 t) (stage_whole0 5 _) (st0_6 t) (stage_whole0 6 _) (st0_7 t) (stage_whole0 7 _) (st0_8 t) (stage_whole0 8 _) (Memref.whole cc0_scratch0) (Memref.isWhole_whole _) (Memref.whole cc0_scratch1) (Memref.isWhole_whole _) (Memref.whole cc0_scratch2) (Memref.isWhole_whole _) f1 f2 f3 f4 f5 f8 g0 g2 hc
    rw [e1, e2, e3, e4, e5, hx ht] at l8 l12 l9
    have hy : product Mxu.init (iblk m c 1 t) (amOf (iblk m c 2 t) (iblk m c 3 t) (iblk m c 4 t)) (iblk m c 5 t) (xpAt m c) = yAt m c t := by
      unfold yAt startAt; rw [if_neg ht]
    rw [hy] at l8 l12 l9
    have hxp := hx ht
    have hs' := scaled_step m c t _ hs
    rw [← l12] at hs'
    iapply (R f0 f6 f7 g1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    iintro ⟨H0, H1, H2, H3, H4, H5, H6, H7, H8, S0, ⟨%g1', S1⟩, S2⟩
    isplitl [S0 S1 S2 Hr]
    · isplitl [S0 S1 S2]
      · iexists _, _, _
        isplitl [S0]; · iexact S0
        isplitl [S1]; · iexact S1
        isplitl [S2]; · iexact S2
        ipureintro
        exact ⟨fun _ => hxp, hs'⟩
      · iexact Hr
    isplitl [Ho]; · iexact Ho
    isplitl [H0]; · iapply (owns_of_pt' c (st0_0 t) (stage_whole0 0 _) _ _ e0); iexact H0
    isplitl [H1]; · iapply (owns_of_pt' c (st0_1 t) (stage_whole0 1 _) _ _ e1); iexact H1
    isplitl [H2]; · iapply (owns_of_pt' c (st0_2 t) (stage_whole0 2 _) _ _ e2); iexact H2
    isplitl [H3]; · iapply (owns_of_pt' c (st0_3 t) (stage_whole0 3 _) _ _ e3); iexact H3
    isplitl [H4]; · iapply (owns_of_pt' c (st0_4 t) (stage_whole0 4 _) _ _ e4); iexact H4
    isplitl [H5]; · iapply (owns_of_pt' c (st0_5 t) (stage_whole0 5 _) _ _ e5); iexact H5
    isplitl [H6]; · iapply (owns_of_pt' c (st0_6 t) (stage_whole0 6 _) _ _ e6); iexact H6
    isplitl [H7]; · iapply (owns_of_pt' c (st0_7 t) (stage_whole0 7 _) _ _ l8); iexact H7
    by_cases hl : t.val = 42
    · rw [post8_last m c t hl, after0_8]
      iapply (owns_of_pt' c (st0_8 t) (stage_whole0 8 _) _ _ ((l9 ((last_iff t).mpr hl)).trans (out_last m c _ t hl (l12 ▸ hs')))); iexact H8
    · rw [post8_other m c t hl]
      iexists d8
      iapply (owns_of_pt' c (st0_8 t) (stage_whole0 8 _) _ _ ((congrArg _ (k9 fun e => hl ((last_iff t).mp e))).trans e8)); iexact H8

theorem body_exact (c : Dev nD) : BodyObligation (dats (F := F) m 0 c) (defs₀ (F := F)) Variants.none () Set.univ := fun t => by
  rw [bigSep_W0, bigSep_W0, defs₀_row]
  exact triple_restated (sound_exact m c t) rfl .rfl fun _ => .rfl

theorem inv_in (c : Dev nD) : Pipeline.ΦA spec0 c ⊢ (dats (F := F) m 0 c).Φ 0 := by
  rw [show (dats m 0 c).Φ 0 = Inv m c 0 from rfl]
  unfold Pipeline.ΦA Inv
  rw [scopedRest0_eq]
  iintro ⟨⟨⟨%g0, S0⟩, ⟨%g1, S1⟩, ⟨%g2, S2⟩⟩, Hr⟩
  isplitl [S0 S1 S2]
  · iexists g0, g1, g2
    isplitl [S0]; · iexact S0
    isplitl [S1]; · iexact S1
    isplitl [S2]; · iexact S2
    ipureintro
    exact ⟨fun h => absurd rfl h, fun j hj => absurd hj (Nat.not_lt_zero _)⟩
  · iexact Hr

theorem inv_out (c : Dev nD) : (dats (F := F) m 0 c).Φ (Fin.last cfg0.N) ⊢ Pipeline.ΦA spec0 c := by
  rw [show (dats m 0 c).Φ (Fin.last cfg0.N) = Inv m c (Fin.last cfg0.N) from rfl]
  unfold Pipeline.ΦA Inv
  rw [scopedRest0_eq]
  iintro ⟨⟨%g0, %g1, %g2, S0, S1, S2, -⟩, Hr⟩
  isplitl [S0 S1 S2]
  · isplitl [S0]; · iexists g0; iexact S0
    isplitl [S1]; · iexists g1; iexact S1
    iexists g2; iexact S2
  · iexact Hr

set_option backward.isDefEq.respectTransparency.types false in
/-- The run, every array of the pipeline at what the proof data say. -/
theorem run_exact : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_exact m c).loose) (hshare := fun c => (dats m 0 c).share_full fun _ => rfl)
    (howed := fun _ _ => rfl) (V := V m) (hmain := hmain m Variants.none) (hA := dats_A m) (hin := inv_in m) (hout := inv_out m)

end Cert.KernelIdeal.Proof

end
-- ==== Proof.HostPrefix.lean ====
/-
  What the kernel's host code leaves in the buffers its regions read: the permutation matrix, which has a one in column
  `k` at the row of the byte that the tile's row `k` is made of, the groups' scales and the offset reshaped, and the
  codebook tables.
-/
module

public import proofs.«01_k».proof.Proof.Gen.KernelIdeal.Frame
public import Idealize.ShloMosaic.Lib.StableHlo.Run
public import Idealize.ShloMosaic.Lib.Pipeline.Frame
public import Idealize.ShloMosaic.Lib.Pointwise

@[expose] public section

set_option maxRecDepth 16384

noncomputable section

namespace Cert.KernelIdeal.Proof

open Cert.KernelIdeal Cert.KernelIdeal.Gen

open Idealize.ShloMosaic Idealize.ShloMosaic.TcCoe Idealize.SL.Sem Idealize.ShloMosaic.StableHlo

variable {F : FTy → Type} [FloatOps F]

/-! ## The two called functions -/

/-- An integer spread over a square. -/
abbrev spread (n : IVec S_ 32) : IVec S256x256 32 := broadcastInDim S256x256 ![] bcast_S_S256x256 n

/-- The quotient rounded down, as the host code computes it. -/
def floorDiv (x : IVec S256x256 32) (n : IVec S_ 32) : IVec S256x256 32 :=
  select (andi (cmpi .ne (signi x) (spread (signi n))) (cmpi .ne (Host.remsi x (spread n)) (spread (constantI S_ 32 0#32))))
    (subi (Host.divsi x (spread n)) (spread (constantI S_ 32 1#32))) (Host.divsi x (spread n))

/-- The divisor the remainder is taken by: one in place of zero. -/
def divisor (n : IVec S_ 32) : IVec S_ 32 := select (cmpi .eq n (constantI S_ 32 0#32)) (constantI S_ 32 1#32) n

/-- The remainder of the divisor's sign, as the host code computes it. -/
def remainder (x : IVec S256x256 32) (n : IVec S_ 32) : IVec S256x256 32 :=
  select (andi (cmpi .ne (cmpi .slt (Host.remsi x (spread (divisor n))) (spread (constantI S_ 32 0#32)))
      (broadcastInDim S256x256 ![] bcast_S_S256x256 (cmpi .slt (divisor n) (constantI S_ 32 0#32))))
      (cmpi .ne (Host.remsi x (spread (divisor n))) (spread (constantI S_ 32 0#32))))
    (addi (Host.remsi x (spread (divisor n))) (spread (divisor n))) (Host.remsi x (spread (divisor n)))

/-! ## The segments in order -/

section Segments

variable (U : Valuation τ sig (Elt F))

theorem seg0_v0 : after hostOps0 U (Proc.devRef .tc main_v0) = iotaInDim S256x256 32 0 := by
  after_results_simp
  all_goals rfl
theorem seg0_v1 : after hostOps0 U (Proc.devRef .tc main_v1) = iotaInDim S256x256 32 1 := by
  after_results_simp
  all_goals rfl
theorem seg0_c_0 : after hostOps0 U (Proc.devRef .tc main_c_0) = constantI S_ 32 64#32 := by
  after_results_simp
  all_goals rfl
theorem seg0_c : after hostOps0 U (Proc.devRef .tc main_c) = fun i => lit0 (S2x32x128.rowMajor i) := by
  after_results_simp
  all_goals rfl
theorem seg1_v2 : after hostOps0_1 U (Proc.devRef .tc main_v2) = floorDiv (U (Proc.devRef .tc main_v1) : IVec S256x256 32) (U (Proc.devRef .tc main_c_0) : IVec S_ 32) := by
  after_results_simp
  all_goals rfl
theorem seg1_keep : after hostOps0_1 U (Proc.devRef .tc main_v0) = U (Proc.devRef .tc main_v0) ∧ after hostOps0_1 U (Proc.devRef .tc main_v1) = U (Proc.devRef .tc main_v1) := by
  refine ⟨?_, ?_⟩ <;> after_results_simp
theorem seg2_v4 : after hostOps0_2 U (Proc.devRef .tc main_v4) = muli (spread (constantI S_ 32 32#32)) (U (Proc.devRef .tc main_v2) : IVec S256x256 32) := by
  after_results_simp
  all_goals rfl
theorem seg2_c_2 : after hostOps0_2 U (Proc.devRef .tc main_c_2) = constantI S_ 32 16#32 := by
  after_results_simp
  all_goals rfl
theorem seg2_keep : after hostOps0_2 U (Proc.devRef .tc main_v0) = U (Proc.devRef .tc main_v0) ∧ after hostOps0_2 U (Proc.devRef .tc main_v1) = U (Proc.devRef .tc main_v1) := by
  refine ⟨?_, ?_⟩ <;> after_results_simp
theorem seg3_v5 : after hostOps0_3 U (Proc.devRef .tc main_v5) = remainder (U (Proc.devRef .tc main_v1) : IVec S256x256 32) (U (Proc.devRef .tc main_c_2) : IVec S_ 32) := by
  after_results_simp
  simp only [TRef.ofBuf_toBuf]
  rfl
theorem seg3_keep : after hostOps0_3 U (Proc.devRef .tc main_v0) = U (Proc.devRef .tc main_v0) ∧ after hostOps0_3 U (Proc.devRef .tc main_v1) = U (Proc.devRef .tc main_v1) ∧ after hostOps0_3 U (Proc.devRef .tc main_v4) = U (Proc.devRef .tc main_v4) := by
  refine ⟨?_, ?_, ?_⟩ <;> after_results_simp
theorem seg4_v8 : after hostOps0_4 U (Proc.devRef .tc main_v8) = addi (U (Proc.devRef .tc main_v4) : IVec S256x256 32) (muli (spread (constantI S_ 32 2#32)) (U (Proc.devRef .tc main_v5) : IVec S256x256 32)) := by
  after_results_simp
  all_goals rfl
theorem seg4_c_4 : after hostOps0_4 U (Proc.devRef .tc main_c_4) = constantI S_ 32 16#32 := by
  after_results_simp
  all_goals rfl
theorem seg4_keep : after hostOps0_4 U (Proc.devRef .tc main_v0) = U (Proc.devRef .tc main_v0) ∧ after hostOps0_4 U (Proc.devRef .tc main_v1) = U (Proc.devRef .tc main_v1) := by
  refine ⟨?_, ?_⟩ <;> after_results_simp
theorem seg5_v9 : after hostOps0_5 U (Proc.devRef .tc main_v9) = floorDiv (U (Proc.devRef .tc main_v1) : IVec S256x256 32) (U (Proc.devRef .tc main_c_4) : IVec S_ 32) := by
  after_results_simp
  all_goals rfl
theorem seg5_keep : after hostOps0_5 U (Proc.devRef .tc main_v0) = U (Proc.devRef .tc main_v0) ∧ after hostOps0_5 U (Proc.devRef .tc main_v1) = U (Proc.devRef .tc main_v1) ∧ after hostOps0_5 U (Proc.devRef .tc main_v8) = U (Proc.devRef .tc main_v8) := by
  refine ⟨?_, ?_, ?_⟩ <;> after_results_simp
theorem seg6_c_5 : after hostOps0_6 U (Proc.devRef .tc main_c_5) = constantI S_ 32 2#32 := by
  after_results_simp
  all_goals rfl
theorem seg6_keep : after hostOps0_6 U (Proc.devRef .tc main_v0) = U (Proc.devRef .tc main_v0) ∧ after hostOps0_6 U (Proc.devRef .tc main_v1) = U (Proc.devRef .tc main_v1) ∧ after hostOps0_6 U (Proc.devRef .tc main_v8) = U (Proc.devRef .tc main_v8) ∧ after hostOps0_6 U (Proc.devRef .tc main_v9) = U (Proc.devRef .tc main_v9) := by
  refine ⟨?_, ?_, ?_, ?_⟩ <;> after_results_simp
theorem seg7_v10 : after hostOps0_7 U (Proc.devRef .tc main_v10) = remainder (U (Proc.devRef .tc main_v9) : IVec S256x256 32) (U (Proc.devRef .tc main_c_5) : IVec S_ 32) := by
  after_results_simp
  simp only [TRef.ofBuf_toBuf]
  rfl
theorem seg7_keep : after hostOps0_7 U (Proc.devRef .tc main_v0) = U (Proc.devRef .tc main_v0) ∧ after hostOps0_7 U (Proc.devRef .tc main_v1) = U (Proc.devRef .tc main_v1) ∧ after hostOps0_7 U (Proc.devRef .tc main_v8) = U (Proc.devRef .tc main_v8) := by
  refine ⟨?_, ?_, ?_⟩ <;> after_results_simp
theorem seg8_v15 : after hostOps0_8 U (Proc.devRef .tc main_v15) = addi (muli (spread (constantI S_ 32 2#32)) (addi (U (Proc.devRef .tc main_v8) : IVec S256x256 32) (U (Proc.devRef .tc main_v10) : IVec S256x256 32))) (spread (constantI S_ 32 1#32)) := by
  after_results_simp
  all_goals rfl
theorem seg8_c_8 : after hostOps0_8 U (Proc.devRef .tc main_c_8) = constantI S_ 32 32#32 := by
  after_results_simp
  all_goals rfl
theorem seg8_keep : after hostOps0_8 U (Proc.devRef .tc main_v0) = U (Proc.devRef .tc main_v0) ∧ after hostOps0_8 U (Proc.devRef .tc main_v1) = U (Proc.devRef .tc main_v1) := by
  refine ⟨?_, ?_⟩ <;> after_results_simp
theorem seg9_v16 : after hostOps0_9 U (Proc.devRef .tc main_v16) = floorDiv (U (Proc.devRef .tc main_v1) : IVec S256x256 32) (U (Proc.devRef .tc main_c_8) : IVec S_ 32) := by
  after_results_simp
  all_goals rfl
theorem seg9_keep : after hostOps0_9 U (Proc.devRef .tc main_v0) = U (Proc.devRef .tc main_v0) ∧ after hostOps0_9 U (Proc.devRef .tc main_v15) = U (Proc.devRef .tc main_v15) := by
  refine ⟨?_, ?_⟩ <;> after_results_simp
theorem seg10_c_9 : after hostOps0_10 U (Proc.devRef .tc main_c_9) = constantI S_ 32 2#32 := by
  after_results_simp
  all_goals rfl
theorem seg10_keep : after hostOps0_10 U (Proc.devRef .tc main_v0) = U (Proc.devRef .tc main_v0) ∧ after hostOps0_10 U (Proc.devRef .tc main_v15) = U (Proc.devRef .tc main_v15) ∧ after hostOps0_10 U (Proc.devRef .tc main_v16) = U (Proc.devRef .tc main_v16) := by
  refine ⟨?_, ?_, ?_⟩ <;> after_results_simp
theorem seg11_v17 : after hostOps0_11 U (Proc.devRef .tc main_v17) = remainder (U (Proc.devRef .tc main_v16) : IVec S256x256 32) (U (Proc.devRef .tc main_c_9) : IVec S_ 32) := by
  after_results_simp
  simp only [TRef.ofBuf_toBuf]
  rfl
theorem seg11_keep : after hostOps0_11 U (Proc.devRef .tc main_v0) = U (Proc.devRef .tc main_v0) ∧ after hostOps0_11 U (Proc.devRef .tc main_v15) = U (Proc.devRef .tc main_v15) := by
  refine ⟨?_, ?_⟩ <;> after_results_simp
theorem seg12_v19 : after hostOps0_12 U (Proc.devRef .tc main_v19) = cmpi .eq (U (Proc.devRef .tc main_v0) : IVec S256x256 32) (subi (U (Proc.devRef .tc main_v15) : IVec S256x256 32) (U (Proc.devRef .tc main_v17) : IVec S256x256 32)) := by
  after_results_simp
  all_goals rfl
theorem seg12_cst : after hostOps0_12 U (Proc.devRef .tc main_cst) = constant S_ .f32 0x3F800000#32 := by
  after_results_simp
  all_goals rfl
theorem seg12_cst_10 : after hostOps0_12 U (Proc.devRef .tc main_cst_10) = constant S_ .f32 0x00000000#32 := by
  after_results_simp
  all_goals rfl
theorem seg13_v20 : after hostOps0_13 U (Proc.devRef .tc main_v20) = select (U (Proc.devRef .tc main_v19) : IVec S256x256 1) (broadcastInDim S256x256 ![] bcast_S_S256x256 (U (Proc.devRef .tc main_cst) : FVec F S_ .f32)) (broadcastInDim S256x256 ![] bcast_S_S256x256 (U (Proc.devRef .tc main_cst_10) : FVec F S_ .f32)) := by
  after_results_simp
  all_goals rfl
theorem seg14_v21 : after hostOps0_14 U (Proc.devRef .tc main_v21) = truncf .bf16 (U (Proc.devRef .tc main_v20) : FVec F S256x256 .f32) bitsLt_bf16_f32 := by
  after_results_simp
  all_goals rfl
theorem seg14_v22 : after hostOps0_14 U (Proc.devRef .tc main_v22) = shapeCast S43x1x64 (U (Proc.devRef .tc main_arg3) : FVec F S2752 .f32) shapeCasts_S2752_S43x1x64 := by
  after_results_simp
  all_goals rfl
theorem seg14_v23 : after hostOps0_14 U (Proc.devRef .tc main_v23) = shapeCast S1 (U (Proc.devRef .tc main_arg4) : FVec F S_ .f32) shapeCasts_S_S1 := by
  after_results_simp
  all_goals rfl

end Segments

/-! ## The buffers at the launch -/

variable (m : (ℓ : Loc nD τ sig) → Buf (Elt F) ℓ) (c : Dev nD)

/-- The host code's operations as segments one after the other. -/
theorem V_segments (b : Ref sig .tc) : V m c b
    = after hostOps0_14 (after hostOps0_13 (after hostOps0_12 (after hostOps0_11 (after hostOps0_10 (after hostOps0_9 (after hostOps0_8 (after hostOps0_7
      (after hostOps0_6 (after hostOps0_5 (after hostOps0_4 (after hostOps0_3 (after hostOps0_2 (after hostOps0_1 (after hostOps0 (fun b => m (c, b))))))))))))))))
      (Proc.devRef .tc b) := by
  simp only [V, List.flatten_cons, List.flatten_nil, List.append_nil, Idealize.ShloMosaic.StableHlo.after_append]

/-- The columns' index. -/
abbrev colIota : IVec S256x256 32 := iotaInDim S256x256 32 1

/-- The row whose entry is one, of each column. -/
def srcRow : IVec S256x256 32 :=
  subi (addi (muli (spread (constantI S_ 32 2#32))
      (addi (addi (muli (spread (constantI S_ 32 32#32)) (floorDiv colIota (constantI S_ 32 64#32)))
          (muli (spread (constantI S_ 32 2#32)) (remainder colIota (constantI S_ 32 16#32))))
        (remainder (floorDiv colIota (constantI S_ 32 16#32)) (constantI S_ 32 2#32)))) (spread (constantI S_ 32 1#32)))
    (remainder (floorDiv colIota (constantI S_ 32 32#32)) (constantI S_ 32 2#32))

theorem V_main_v21 : V m c main_v21 = (truncf .bf16 (select (cmpi .eq (iotaInDim S256x256 32 0) srcRow)
    (broadcastInDim S256x256 ![] bcast_S_S256x256 (constant S_ .f32 0x3F800000#32))
    (broadcastInDim S256x256 ![] bcast_S_S256x256 (constant S_ .f32 0x00000000#32))) bitsLt_bf16_f32 : FVec F S256x256 .bf16) := by
  rw [V_segments, seg14_v21, seg13_v20, seg12_v19, seg12_cst, seg12_cst_10, seg11_v17, (seg11_keep _).1, (seg11_keep _).2, seg10_c_9, (seg10_keep _).1,
    (seg10_keep _).2.1, (seg10_keep _).2.2, seg9_v16, (seg9_keep _).1, (seg9_keep _).2, seg8_v15, seg8_c_8, (seg8_keep _).1, (seg8_keep _).2,
    seg7_v10, (seg7_keep _).1, (seg7_keep _).2.1, (seg7_keep _).2.2, seg6_c_5, (seg6_keep _).1, (seg6_keep _).2.1, (seg6_keep _).2.2.1, (seg6_keep _).2.2.2,
    seg5_v9, (seg5_keep _).1, (seg5_keep _).2.1, (seg5_keep _).2.2, seg4_v8, seg4_c_4, (seg4_keep _).1, (seg4_keep _).2,
    seg3_v5, (seg3_keep _).1, (seg3_keep _).2.1, (seg3_keep _).2.2, seg2_v4, seg2_c_2, (seg2_keep _).1, (seg2_keep _).2,
    seg1_v2, (seg1_keep _).1, (seg1_keep _).2, seg0_v0, seg0_v1, seg0_c_0]
  rfl

theorem seg14_keep (U : Valuation τ sig (Elt F)) : after hostOps0_14 U (Proc.devRef .tc main_arg3) = U (Proc.devRef .tc main_arg3)
    ∧ after hostOps0_14 U (Proc.devRef .tc main_arg4) = U (Proc.devRef .tc main_arg4) := by
  refine ⟨?_, ?_⟩ <;> after_results_simp

theorem V_main_v22 : V m c main_v22 = (shapeCast S43x1x64 (m ((c : Thread nD τ).loc main_arg3) : FVec F S2752 .f32) shapeCasts_S2752_S43x1x64 : FVec F S43x1x64 .f32) := by
  rw [V_segments, seg14_v22, ← V_main_arg3 m c, V_segments, (seg14_keep _).1]

theorem V_main_v23 : V m c main_v23 = (shapeCast S1 (m ((c : Thread nD τ).loc main_arg4) : FVec F S_ .f32) shapeCasts_S_S1 : FVec F S1 .f32) := by
  rw [V_segments, seg14_v23, ← V_main_arg4 m c, V_segments, (seg14_keep _).2]

theorem V_main_c : V m c main_c = (fun i => lit0 (S2x32x128.rowMajor i) : Vec F S2x32x128 .i8) := by
  have e : V m c main_c = after (List.flatten [hostOps0_1, hostOps0_2, hostOps0_3, hostOps0_4, hostOps0_5, hostOps0_6, hostOps0_7, hostOps0_8, hostOps0_9, hostOps0_10, hostOps0_11, hostOps0_12, hostOps0_13, hostOps0_14])
      (after hostOps0 (fun b => m (c, b))) (Proc.devRef .tc main_c) := by
    rw [V_segments]
    simp only [List.flatten_cons, List.flatten_nil, List.append_nil, Idealize.ShloMosaic.StableHlo.after_append]
  rw [e, ← seg0_c (fun b => m (c, b))]
  refine StableHlo.after_of_forall_not_mem (b := Proc.devRef .tc main_c) _ _ (List.forall_iff_forall_mem.mp (by
    simp only [hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Proof

end
-- ==== Proof.Nibbles.lean ====
/-
  A dequantised piece read at an index: the byte's nibble, looked up in the two tables, gives the two bytes of a bf16
  word, and the word's value is multiplied by the block's scale. Nothing here depends on the float instance.
-/
module

public import proofs.«01_k».proof.Proof.Tile
public import Idealize.ShloMosaic.Lib.Pointwise
public import Idealize.ShloMosaic.Lib.BitcastFour

@[expose] public section

set_option maxRecDepth 16384

noncomputable section

namespace Cert.KernelIdeal.Proof

open Cert.KernelIdeal Cert.KernelIdeal.Gen

open Idealize.ShloMosaic

/-! ## Bytes of words -/

theorem byte_mask (w : BitVec 32) (k : Nat) (hk : k < 4) :
    (w &&& 252645135#32).extractLsb' (8 * k) 8 = w.extractLsb' (8 * k) 8 &&& 15#8 := by
  have e : (252645135#32).extractLsb' (8 * k) 8 = 15#8 := by interval_cases k <;> decide
  rw [BitVec.extractLsb'_and, e]

theorem byte_shift_mask (w : BitVec 32) (k : Nat) (hk : k < 4) :
    ((w >>> 4) &&& 252645135#32).extractLsb' (8 * k) 8 = (w.extractLsb' (8 * k) 8) >>> 4 &&& 15#8 := by
  have e : (252645135#32).extractLsb' (8 * k) 8 = 15#8 := by interval_cases k <;> decide
  rw [BitVec.extractLsb'_and, e]
  apply BitVec.eq_of_getLsbD_eq
  intro i hi
  interval_cases i <;> simp [BitVec.getLsbD_extractLsb', BitVec.getLsbD_ushiftRight] <;> congr 1 <;> omega

theorem half_even (a b : BitVec 32) (k : Nat) (hk : k < 2) :
    ((a &&& 16711935#32) ||| ((b &&& 16711935#32) <<< 8)).extractLsb' (16 * k) 16
      = b.extractLsb' (8 * (2 * k)) 8 ++ a.extractLsb' (8 * (2 * k)) 8 := by
  apply BitVec.eq_of_getLsbD_eq
  intro i hi
  simp only [BitVec.getLsbD_extractLsb', BitVec.getLsbD_append, BitVec.getLsbD_shiftLeft, BitVec.getLsbD_or, BitVec.getLsbD_and]
  interval_cases k <;> interval_cases i <;> simp

theorem half_bytes (a : BitVec 32) (k : Nat) :
    a.extractLsb' (16 * k) 16 = a.extractLsb' (8 * (2 * k + 1)) 8 ++ a.extractLsb' (8 * (2 * k)) 8 := by
  apply BitVec.eq_of_getLsbD_eq
  intro i hi
  rw [BitVec.getLsbD_append, BitVec.getLsbD_extractLsb', BitVec.getLsbD_extractLsb', BitVec.getLsbD_extractLsb']
  by_cases h : i < 8
  · simp only [h, hi, decide_true, Bool.true_and, if_true]; congr 1; omega
  · have h' : i - 8 < 8 := by omega
    simp only [h, h', hi, decide_true, decide_false, Bool.true_and, if_false, cond_false]; congr 1; omega

theorem byte_shift (w : BitVec 32) (k : Nat) : (w >>> 8).extractLsb' (8 * k) 8 = w.extractLsb' (8 * (k + 1)) 8 := by
  apply BitVec.eq_of_getLsbD_eq
  intro i hi
  rw [BitVec.getLsbD_extractLsb', BitVec.getLsbD_extractLsb', BitVec.getLsbD_ushiftRight]
  congr 2; omega

theorem shli_8 (x : BitVec 32) : IntOp.shli .vector x 8#32 = x <<< 8 := by unfold IntOp.shli; rw [if_pos (by decide)]; rfl
theorem shrui_8 (x : BitVec 32) : IntOp.shrui .vector x 8#32 = x >>> 8 := by unfold IntOp.shrui; rw [if_pos (by decide)]; rfl
theorem shrui_4 (x : BitVec 32) : IntOp.shrui .vector x 4#32 = x >>> 4 := by unfold IntOp.shrui; rw [if_pos (by decide)]; rfl

/-! ## The bitcasts at an index -/

section Casts
variable {n : Nat}

/-- A byte of a word: the row it came from. -/
theorem word_byte {R r : Nat} (x : (⟨2, ![R, n]⟩ : Shape).Idx → BitVec 8) (h : (⟨2, ![R, n]⟩ : Shape).Bitcasts 8 ⟨2, ![r, n]⟩ 32)
    (a : Fin r) (l : Fin n) (k : Nat) (hk : k < 4) (p : Fin R) (hp : p.val = 4 * a.val + k) :
    (bitcast ⟨2, ![r, n]⟩ 32 x h (ix2 a l)).extractLsb' (8 * k) 8 = x (ix2 p l) := by
  apply BitVec.eq_of_getLsbD_eq
  intro i hi
  rw [BitVec.getLsbD_extractLsb', ix2_eq_valueIdx, ix2_eq_valueIdx, bitcast_8_32_getLsbD_ix2 x h a l (8 * k + i) (by omega) p (by omega)]
  have : (8 * k + i) % 8 = i := by omega
  rw [this]; simp [hi]

/-- Words read as bytes. -/
theorem bytes_of_word {R r : Nat} (x : (⟨2, ![r, n]⟩ : Shape).Idx → BitVec 32) (h : (⟨2, ![r, n]⟩ : Shape).Bitcasts 32 ⟨2, ![R, n]⟩ 8)
    (i : Fin R) (l : Fin n) (a : Fin r) (ha : a.val = i.val / 4) :
    bitcast ⟨2, ![R, n]⟩ 8 x h (ix2 i l) = (x (ix2 a l)).extractLsb' (8 * (i.val % 4)) 8 := by
  apply BitVec.eq_of_getLsbD_eq
  intro q hq
  rw [BitVec.getLsbD_extractLsb', bitcast_getLsbD x h _ q hq (by decide)]
  have hr : (⟨2, ![R, n]⟩ : Shape).row (ix2 i l) = i.val := rfl
  have e : h.srcIdx (ix2 i l) (((⟨2, ![R, n]⟩ : Shape).row (ix2 i l) * 8 + q) / 32) (fun a ha =>
          (Nat.div_lt_iff_lt_mul (by decide)).2 (h.pos_lt (ix2 i l) q hq a ha)) = ix2 a l := by
    funext c
    match c with
    | ⟨0, _⟩ => exact Fin.ext ((h.srcIdx_row _ _ _ ⟨0, Nat.zero_lt_two⟩ rfl).trans (by rw [hr]; show _ = a.val; omega))
    | ⟨1, _⟩ => exact Fin.ext (h.srcIdx_other _ _ _ ⟨1, Nat.one_lt_two⟩ (by show ¬ 1 + 2 = 2; omega))
  rw [e, hr]
  have : (i.val * 8 + q) % 32 = 8 * (i.val % 4) + q := by omega
  rw [this]; simp [hq]

/-- Words read as their halves. -/
theorem halves_of_word {R r : Nat} (x : (⟨2, ![r, n]⟩ : Shape).Idx → BitVec 32) (h : (⟨2, ![r, n]⟩ : Shape).Bitcasts 32 ⟨2, ![R, n]⟩ 16)
    (i : Fin R) (l : Fin n) (a : Fin r) (ha : a.val = i.val / 2) :
    bitcast ⟨2, ![R, n]⟩ 16 x h (ix2 i l) = (x (ix2 a l)).extractLsb' (16 * (i.val % 2)) 16 := by
  rw [bitcast_32_16]
  have hr : (⟨2, ![R, n]⟩ : Shape).row (ix2 i l) = i.val := rfl
  congr 1
  congr 1
  funext c
  match c with
  | ⟨0, _⟩ => exact Fin.ext ((h.srcIdx_row _ _ _ ⟨0, Nat.zero_lt_two⟩ rfl).trans (by rw [hr]; show _ = a.val; omega))
  | ⟨1, _⟩ => exact Fin.ext (h.srcIdx_other _ _ _ ⟨1, Nat.one_lt_two⟩ (by show ¬ 1 + 2 = 2; omega))

end Casts

variable {F : FTy → Type} [FloatOps F]

/-! ## The nibble, the lookup and the words -/

/-- A byte's low or high nibble. -/
def nib (hi : Bool) (b : BitVec 8) : BitVec 8 := (match hi with | true => b >>> 4 | false => b) &&& 15#8

theorem nibble_apply (hi : Bool) (x : IVec S32x128 8) (i : Fin 32) (l : Fin 128) :
    nibble hi (bitcast S8x128 32 x bitcasts_S32x128_w8_S8x128_w32) (ix2 i l) = nib hi (x (ix2 i l)) := by
  have hi' := i.isLt
  unfold nibble nib
  refine (bytes_of_word _ _ i l ⟨i.val / 4, by omega⟩ rfl).trans ?_
  have hw := word_byte x bitcasts_S32x128_w8_S8x128_w32 ⟨i.val / 4, by omega⟩ l (i.val % 4) (by omega) i (by show i.val = 4 * (i.val / 4) + i.val % 4; omega)
  cases hi
  · refine (byte_mask _ _ (by omega)).trans ?_
    exact congrArg (· &&& 15#8) hw
  · show (IntOp.andi (IntOp.shrui .vector _ 4#32) 252645135#32).extractLsb' (8 * (i.val % 4)) 8 = _
    rw [shrui_4]
    refine (byte_shift_mask _ _ (by omega)).trans ?_
    exact congrArg (fun z : BitVec 8 => z >>> 4 &&& 15#8) hw

/-- Byte `k` of the word at row `a`. -/
theorem byte_at (x : IVec S32x128 8) (a : Fin 8) (l : Fin 128) (k : Nat) (hk : k < 4) (i : Fin 32) (hi : i.val = 4 * a.val + k) :
    (bitcast S8x128 32 x bitcasts_S32x128_w8_S8x128_w32 (ix2 a l)).extractLsb' (8 * k) 8 = x (ix2 i l) :=
  word_byte x bitcasts_S32x128_w8_S8x128_w32 a l k hk i hi

/-- The even rows' words. -/
theorem words_even (vl vh : IVec S32x128 8) (a : Fin 8) (l : Fin 128) (b : Nat) (hb : b < 2) (i : Fin 32) (hi : i.val = 4 * a.val + 2 * b) :
    (words false vl vh (ix2 a l)).extractLsb' (16 * b) 16 = vh (ix2 i l) ++ vl (ix2 i l) := by
  show (IntOp.ori (IntOp.andi (bitcast S8x128 32 vl bitcasts_S32x128_w8_S8x128_w32 (ix2 a l)) 16711935#32)
    (IntOp.shli .vector (IntOp.andi (bitcast S8x128 32 vh bitcasts_S32x128_w8_S8x128_w32 (ix2 a l)) 16711935#32) 8#32)).extractLsb' (16 * b) 16 = _
  rw [shli_8, ← byte_at vl a l (2 * b) (by omega) i hi, ← byte_at vh a l (2 * b) (by omega) i hi]
  exact half_even _ _ b hb

/-- The bytes the odd rows' words are made of: the odd rows hold the second table's, the even rows the first's of the next row. -/
def oddBytes (vl vh : IVec S32x128 8) : IVec S32x128 8 :=
  select oddRow vh (bitcast S32x128 8 (shrui (bitcast S8x128 32 vl bitcasts_S32x128_w8_S8x128_w32) (broadcast S8x128 8#32)) bitcasts_S8x128_w32_S32x128_w8)

theorem oddRow_one (i : Fin 32) (l : Fin 128) (h : i.val % 2 = 1) : oddRow (ix2 i l) = 1#1 := by
  have : ∀ i : Fin 32, i.val % 2 = 1 → IntOp.cmpi .eq (IntOp.andi (BitVec.ofNat 32 (32 * 0 + i.val)) 1#32) 1#32 = 1#1 := by decide +kernel
  exact this i h

theorem oddRow_zero (i : Fin 32) (l : Fin 128) (h : i.val % 2 = 0) : ¬ oddRow (ix2 i l) = 1#1 := by
  have : ∀ i : Fin 32, i.val % 2 = 0 → ¬ IntOp.cmpi .eq (IntOp.andi (BitVec.ofNat 32 (32 * 0 + i.val)) 1#32) 1#32 = 1#1 := by decide +kernel
  exact this i h

theorem oddBytes_odd (vl vh : IVec S32x128 8) (i : Fin 32) (l : Fin 128) (h : i.val % 2 = 1) : oddBytes vl vh (ix2 i l) = vh (ix2 i l) :=
  if_pos (oddRow_one i l h)

theorem oddBytes_even (vl vh : IVec S32x128 8) (i i' : Fin 32) (l : Fin 128) (h : i.val % 2 = 0) (h' : i'.val = i.val + 1) :
    oddBytes vl vh (ix2 i l) = vl (ix2 i' l) := by
  have hi := i.isLt
  refine (if_neg (oddRow_zero i l h)).trans ?_
  refine (bytes_of_word _ _ i l ⟨i.val / 4, by omega⟩ rfl).trans ?_
  show (IntOp.shrui .vector (bitcast S8x128 32 vl bitcasts_S32x128_w8_S8x128_w32 (ix2 ⟨i.val / 4, by omega⟩ l)) 8#32).extractLsb' (8 * (i.val % 4)) 8 = _
  rw [shrui_8, byte_shift]
  exact byte_at vl _ l _ (by omega) i' (by show i'.val = 4 * (i.val / 4) + (i.val % 4 + 1); omega)

/-- The odd rows' words. -/
theorem words_odd (vl vh : IVec S32x128 8) (a : Fin 8) (l : Fin 128) (b : Nat) (hb : b < 2) (i : Fin 32) (hi : i.val = 4 * a.val + 2 * b + 1) :
    (words true vl vh (ix2 a l)).extractLsb' (16 * b) 16 = vh (ix2 i l) ++ vl (ix2 i l) := by
  have h1 : i.val - 1 < 32 := by have := i.isLt; omega
  show (bitcast S8x128 32 (oddBytes vl vh) bitcasts_S32x128_w8_S8x128_w32 (ix2 a l)).extractLsb' (16 * b) 16 = _
  rw [half_bytes, byte_at (oddBytes vl vh) a l (2 * b + 1) (by omega) i hi,
    byte_at (oddBytes vl vh) a l (2 * b) (by omega) ⟨i.val - 1, h1⟩ (by show i.val - 1 = _; omega),
    oddBytes_odd vl vh i l (by omega), oddBytes_even vl vh ⟨i.val - 1, h1⟩ i l (by show (i.val - 1) % 2 = 0; omega) (by show i.val = i.val - 1 + 1; omega)]

/-- The rows of the words' halves: the two tables' bytes. -/
theorem words_apply (odd : Bool) (vl vh : IVec S32x128 8) (p : Fin 16) (l : Fin 128) (i : Fin 32) (hi : i.val = 2 * p.val + odd.toNat) :
    bitcast S16x128 16 (words odd vl vh) bitcasts_S8x128_w32_S16x128_w16 (ix2 p l) = vh (ix2 i l) ++ vl (ix2 i l) := by
  have hp := p.isLt
  refine (halves_of_word _ _ p l ⟨p.val / 2, by omega⟩ rfl).trans ?_
  cases odd
  · have hi : i.val = 2 * p.val := hi
    exact words_even vl vh _ l _ (by omega) i (by show i.val = 4 * (p.val / 2) + _; omega)
  · have hi : i.val = 2 * p.val + 1 := hi
    exact words_odd vl vh _ l _ (by omega) i (by show i.val = 4 * (p.val / 2) + _ + 1; omega)

end Cert.KernelIdeal.Proof

end
-- ==== Proof.Element.lean ====
/-
  The dequantised tile read at an index: the weight byte's nibble, looked up in the two tables, gives a bf16 word, and
  the word's value is multiplied by the block's scale.
-/
module

public import proofs.«01_k».proof.Proof.Nibbles
public import proofs.«01_k».proof.Proof.Match
public import Idealize.ShloMosaic.Lib.Pipeline.Value
public import Idealize.ShloMosaic.Lib.Pipeline.ValueKit

@[expose] public section

set_option maxRecDepth 16384

noncomputable section

namespace Cert.KernelIdeal.Proof

open Cert.KernelIdeal Cert.KernelIdeal.Gen

open Idealize.ShloMosaic

/-! ## The tables -/

/-- A table's column at an index: its row, read on any lane of the block's first ones. -/
theorem table_apply (T : Vec Ideal S1x32x128 .i8) (i : Fin 32) (x : Fin 128) :
    table (F := Ideal) T (ix2 i x) = (T (ix3 (0 : Fin 1) (⟨x.val % 32, Nat.mod_lt _ (by decide)⟩ : Fin 32) (⟨i.val, by omega⟩ : Fin 128))).signExtend 32 := by
  let b : IVec S32x32 32 := transpose S32x32 [1, 0] (extractStridedSlice S32x32 ![0, 0] (extsi 32 (shapeCast S32x128 T shapeCasts_S1x32x128_S32x128 : IVec S32x128 8) natLt_8_32) slices_S32x128_o0_0_S32x32) transposes_S32x32_p1_0_S32x32
  have hb : table (F := Ideal) T (ix2 i x) = b (ix2 i (⟨x.val % 32, Nat.mod_lt _ (by decide)⟩ : Fin 32)) := by
    refine concatenate_replicate_apply (t := S32x128) (s₁ := S32x32) (1 : Fin 2) 4 b concatenates_S32x32_S32x32_S32x32_S32x32_S32x128_d1 rfl (ix2 i x) (ix2 i (⟨x.val % 32, Nat.mod_lt _ (by decide)⟩ : Fin 32)) rfl ?_
    intro d hd
    match d with
    | ⟨0, _⟩ => rfl
    | ⟨1, _⟩ => exact absurd rfl hd
  rw [hb]
  show BitVec.signExtend 32 (shapeCast S32x128 T shapeCasts_S1x32x128_S32x128 _) = _
  congr 1
  refine shapeCast_apply T shapeCasts_S1x32x128_S32x128 _ _ ?_
  rw [rowMajor_val2 _ _ rfl, rowMajor_val3 _ _ _ rfl rfl]
  show 0 * (32 * 128) + (x.val % 32) * 128 + i.val = (0 + x.val % 32) * 128 + (0 + i.val)
  omega

theorem lookup_apply (T : IVec S32x128 32) (s : IVec S32x128 8) (i : Fin 32) (l : Fin 128) :
    lookup T s (ix2 i l) = (T (ix2 i (⟨((s (ix2 i l)).signExtend 32).toNat % 128, Nat.mod_lt _ (by decide)⟩ : Fin 128))).setWidth 8 := by
  unfold lookup
  rw [shapeCast_comp, shapeCast_id]
  show BitVec.setWidth 8 (dynamicGather 1 T (extsi 32 s natLt_8_32) (ix2 i l)) = _
  rw [dynamicGather_apply_norm]
  congr 2
  funext b
  match b with
  | ⟨0, _⟩ => rfl
  | ⟨1, _⟩ => rfl

/-- The bf16 word of a nibble: the two tables' entries side by side. -/
def wordOf (TL TH : IVec S32x128 32) (i : Fin 32) (n : BitVec 8) : BitVec 16 :=
  (TH (ix2 i (⟨(n.signExtend 32).toNat % 128, Nat.mod_lt _ (by decide)⟩ : Fin 128))).setWidth 8
    ++ (TL (ix2 i (⟨(n.signExtend 32).toNat % 128, Nat.mod_lt _ (by decide)⟩ : Fin 128))).setWidth 8

/-! ## The tile -/

theorem piece_apply (TL TH : IVec S32x128 32) (U : IVec S128x128 8) (A : Fin 4 → FVec Ideal S16x128 .bf16) (r : Fin 4) (hi odd : Bool)
    (p : Fin 16) (l : Fin 128) (i : Fin 32) (h : i.val = 2 * p.val + odd.toNat) (k : Fin 128) (hk : k.val = 32 * r.val + i.val) :
    piece (F := Ideal) TL TH U A r hi odd (ix2 p l)
      = Ideal.ofBits .bf16 (wordOf TL TH i (nib hi (U (ix2 k l)))) * A r (ix2 p l) := by
  show Ideal.ofBits .bf16 (bitcast S16x128 16 (words odd _ _) bitcasts_S8x128_w32_S16x128_w16 (ix2 p l)) * A r (ix2 p l) = _
  rw [words_apply odd _ _ p l i h, lookup_apply, lookup_apply, nibble_apply]
  have e : extractStridedSlice S32x128 ![32 * r.val, 0] U (slices_block r) (ix2 i l) = U (ix2 k l) := by
    show U _ = U _
    congr 1
    funext b
    match b with
    | ⟨0, _⟩ => exact Fin.ext hk.symm
    | ⟨1, _⟩ => exact Fin.ext (Nat.zero_add _)
  rw [e]
  rfl

/-- Whether a row of the tile is of the high nibbles, and whether of the odd bytes. -/
def hiRow (ρ : Fin 256) : Bool := decide (ρ.val / 16 / 2 % 2 = 1)
def oddOf (ρ : Fin 256) : Bool := decide (ρ.val / 16 % 2 = 1)

/-- The byte of a chunk's 128 that a row of the tile is made of. -/
def byteRow (ρ : Fin 256) : Fin 128 := ⟨32 * (ρ.val / 64) + 2 * (ρ.val % 16) + ρ.val / 16 % 2, by omega⟩

def blockRow (ρ : Fin 256) : Fin 4 := ⟨ρ.val / 64, by omega⟩
def laneRow (ρ : Fin 256) : Fin 16 := ⟨ρ.val % 16, by omega⟩
def tabRow (ρ : Fin 256) : Fin 32 := ⟨2 * (ρ.val % 16) + ρ.val / 16 % 2, by omega⟩

theorem half_apply (TL TH : IVec S32x128 32) (U : IVec S128x128 8) (A : Fin 4 → FVec Ideal S16x128 .bf16) (ρ : Fin 256) (l : Fin 128) :
    half (F := Ideal) TL TH U A (ix2 ρ l)
      = Ideal.ofBits .bf16 (wordOf TL TH (tabRow ρ) (nib (hiRow ρ) (U (ix2 (byteRow ρ) l)))) * A (blockRow ρ) (ix2 (laneRow ρ) l) := by
  let f (n : Fin 16) : FVec Ideal S16x128 .bf16 :=
    piece (F := Ideal) TL TH U A ⟨n.val / 4, by omega⟩ (decide (n.val / 2 % 2 = 1)) (decide (n.val % 2 = 1))
  have hf : half (F := Ideal) TL TH U A (ix2 ρ l) = f ⟨ρ.val / 16, by omega⟩ (ix2 (laneRow ρ) l) := by
    refine concatenate_ofFn_apply (t := S256x128) (s₁ := S16x128) (0 : Fin 2) f
      concatenates_S16x128_S16x128_S16x128_S16x128_S16x128_S16x128_S16x128_S16x128_S16x128_S16x128_S16x128_S16x128_S16x128_S16x128_S16x128_S16x128_S256x128_d0
      rfl 16 rfl (ix2 ρ l) ⟨ρ.val / 16, by omega⟩ rfl (ix2 (laneRow ρ) l) rfl ?_
    intro d hd
    match d with
    | ⟨0, _⟩ => exact absurd rfl hd
    | ⟨1, _⟩ => rfl
  rw [hf]
  have hr : (⟨ρ.val / 16 / 4, by omega⟩ : Fin 4) = blockRow ρ := Fin.ext (by show ρ.val / 16 / 4 = ρ.val / 64; omega)
  show piece (F := Ideal) TL TH U A ⟨ρ.val / 16 / 4, by omega⟩ (hiRow ρ) (oddOf ρ) (ix2 (laneRow ρ) l) = _
  rw [hr]
  refine piece_apply TL TH U A (blockRow ρ) (hiRow ρ) (oddOf ρ) (laneRow ρ) l (tabRow ρ) ?_ (byteRow ρ) ?_
  · show 2 * (ρ.val % 16) + ρ.val / 16 % 2 = 2 * (ρ.val % 16) + (decide (ρ.val / 16 % 2 = 1)).toNat
    congr 1
    by_cases h : ρ.val / 16 % 2 = 1
    · simp [h]
    · have : ρ.val / 16 % 2 = 0 := by omega
      simp [this]
  · show 32 * (ρ.val / 64) + 2 * (ρ.val % 16) + ρ.val / 16 % 2 = 32 * (ρ.val / 64) + (2 * (ρ.val % 16) + ρ.val / 16 % 2)
    omega

theorem amRows_apply (raw : Vec Ideal S1x2x128 .bf16) (p : Fin 16) (l : Fin 128) :
    amRows (F := Ideal) raw (ix2 p l) = raw (ix3 (0 : Fin 1) (⟨p.val % 2, by omega⟩ : Fin 2) l) := by
  let b (q : Fin 2) : FVec Ideal S1x128 .bf16 := shapeCast S1x128 (rowsOfParity q S1x1x128 raw bitcasts_S1x2x128_w16_S1x1x128_w32) shapeCasts_S1x1x128_S1x128
  let h (q : Fin 2) : FVec Ideal S8x128 .bf16 := concatenate S8x128 0 (List.replicate 8 ⟨S1x128, b q⟩) concatenates_S1x128_S1x128_S1x128_S1x128_S1x128_S1x128_S1x128_S1x128_S8x128_d0
  have hb (q : Fin 2) (j : Fin 8) : h q (ix2 j l) = raw (ix3 (0 : Fin 1) q l) := by
    have h1 : h q (ix2 j l) = b q (ix2 (0 : Fin 1) l) := by
      refine concatenate_replicate_apply (t := S8x128) (s₁ := S1x128) (0 : Fin 2) 8 (b q) _ rfl (ix2 j l) (ix2 (0 : Fin 1) l) ?_ ?_
      · show 0 = j.val % 1; omega
      · intro d hd
        match d with
        | ⟨0, _⟩ => exact absurd rfl hd
        | ⟨1, _⟩ => rfl
    rw [h1]
    refine (shapeCast_apply _ shapeCasts_S1x1x128_S1x128 (ix2 (0 : Fin 1) l) (ix3 (0 : Fin 1) (0 : Fin 1) l) ?_).trans ?_
    · rw [rowMajor_val2 _ _ rfl, rowMajor_val3 _ _ _ rfl rfl]
      show 0 * (1 * 128) + 0 * 128 + l.val = 0 * 128 + l.val
      omega
    · rw [rowsOfParity_apply]
      congr 1
      funext d
      match d with
      | ⟨0, _⟩ => rfl
      | ⟨1, _⟩ => exact Fin.ext (by show 2 * 0 + q.val = q.val; omega)
      | ⟨2, _⟩ => rfl
  show interleaveRows S16x128 (h 0) (h 1) bitcasts_S16x128_w16_S8x128_w32 (ix2 p l) = _
  rw [interleaveRows_apply]
  have hp : S16x128.row (ix2 p l) = p.val := rfl
  rw [hp]
  split
  · next h0 =>
    refine Eq.trans (congrArg (h 0) ?_) ((hb 0 ⟨p.val / 2, by omega⟩).trans ?_)
    · funext d
      match d with
      | ⟨0, _⟩ => rfl
      | ⟨1, _⟩ => rfl
    · congr 2; exact Fin.ext h0.symm
  · next h0 =>
    refine Eq.trans (congrArg (h 1) ?_) ((hb 1 ⟨p.val / 2, by omega⟩).trans ?_)
    · funext d
      match d with
      | ⟨0, _⟩ => rfl
      | ⟨1, _⟩ => rfl
    · congr 2; exact Fin.ext (by show 1 = p.val % 2; omega)

theorem halfAt_apply (TL TH : IVec S32x128 32) (W : Vec Ideal S256x2048 .i8) (AM : Vec Ideal S64x2x256 .bf16) (c : Fin 16) (h : Fin 2)
    (ρ : Fin 256) (l : Fin 128) (o : Fin 256) (ho : o.val = 128 * h.val + l.val) :
    halfAt (F := Ideal) TL TH W AM c h (ix2 ρ l)
      = Ideal.ofBits .bf16 (wordOf TL TH (tabRow ρ) (nib (hiRow ρ) (W (ix2 o (⟨128 * c.val + (byteRow ρ).val, by omega⟩ : Fin 2048)))))
        * AM (ix3 (⟨4 * c.val + (blockRow ρ).val, by omega⟩ : Fin 64) (⟨(laneRow ρ).val % 2, by omega⟩ : Fin 2) o) := by
  unfold halfAt
  rw [half_apply, amRows_apply]
  congr 1
  · congr 3
    refine View.ld_unit_apply_of W _ _ (inb_w h c) _ _ ?_
    intro a
    match a with
    | ⟨0, _⟩ => exact ho
    | ⟨1, _⟩ => rfl
  · refine View.ld_unit_apply_of AM _ _ (inb_am h c (blockRow ρ)) _ _ ?_
    intro a
    match a with
    | ⟨0, _⟩ => rfl
    | ⟨1, _⟩ => exact (Nat.zero_add _).symm
    | ⟨2, _⟩ => exact ho

/-- The tile at an index. -/
theorem tile_apply (TL TH : IVec S32x128 32) (W : Vec Ideal S256x2048 .i8) (AM : Vec Ideal S64x2x256 .bf16) (c : Fin 16)
    (ρ o : Fin 256) :
    tile (F := Ideal) TL TH W AM c (ix2 ρ o)
      = Ideal.ofBits .bf16 (wordOf TL TH (tabRow ρ) (nib (hiRow ρ) (W (ix2 o (⟨128 * c.val + (byteRow ρ).val, by omega⟩ : Fin 2048)))))
        * AM (ix3 (⟨4 * c.val + (blockRow ρ).val, by omega⟩ : Fin 64) (⟨(laneRow ρ).val % 2, by omega⟩ : Fin 2) o) := by
  rw [← halfAt_apply TL TH W AM c (⟨o.val / 128, by omega⟩ : Fin 2) ρ (⟨o.val % 128, by omega⟩ : Fin 128) o (by show o.val = 128 * (o.val / 128) + o.val % 128; omega)]
  refine concatenate_ofFn_apply (t := S256x256) (s₁ := S256x128) (1 : Fin 2) (fun h : Fin 2 => halfAt (F := Ideal) TL TH W AM c h)
    concatenates_S256x128_S256x128_S256x256_d1 rfl 128 rfl (ix2 ρ o) ⟨o.val / 128, by omega⟩ rfl _ rfl ?_
  intro d hd
  match d with
  | ⟨0, _⟩ => rfl
  | ⟨1, _⟩ => exact absurd rfl hd

/-- The scale buffer's words at an index: the same in both halves. -/
theorem amOf_apply (C : Vec Ideal S256x64 .i8) (S : Vec Ideal S1x1x64 .f32) (O : Vec Ideal S1 .f32) (b : Fin 64) (q : Fin 2) (o : Fin 256) :
    amOf (F := Ideal) C S O (ix3 b q o) = amLo (F := Ideal) C S O (ix2 b o) := by
  have e : shapeCast S64x1x256 (amLo (F := Ideal) C S O) shapeCasts_S64x256_S64x1x256 (ix3 b (0 : Fin 1) o) = amLo (F := Ideal) C S O (ix2 b o) := by
    refine shapeCast_apply _ shapeCasts_S64x256_S64x1x256 _ _ ?_
    rw [rowMajor_val2 _ _ rfl, rowMajor_val3 _ _ _ rfl rfl]
    show b.val * 256 + o.val = b.val * (1 * 256) + 0 * 256 + o.val
    omega
  unfold amOf
  rw [interleaveRows_apply, ← e]
  have hq := q.isLt
  split <;> congr 1 <;> funext d <;> match d with
    | ⟨0, _⟩ => rfl
    | ⟨1, _⟩ => exact Fin.ext (by show q.val / 2 = 0; omega)
    | ⟨2, _⟩ => rfl

end Cert.KernelIdeal.Proof

end
-- ==== Proof.Literals.lean ====
/-
  The literals of the host code evaluated: the permutation matrix's columns and the codebook tables' words.
-/
module

public import proofs.«01_k».proof.Proof.HostPrefix
public import proofs.«01_k».proof.Proof.Element

@[expose] public section

set_option maxRecDepth 16384

noncomputable section

namespace Cert.KernelIdeal.Proof

open Cert.KernelIdeal Cert.KernelIdeal.Gen

open Idealize.ShloMosaic

/-- The column of a chunk's 256 that row `ρ` of the tile is multiplied by. -/
def srcCol (ρ : Fin 256) : Fin 256 := ⟨2 * (byteRow ρ).val + (if hiRow ρ then 0 else 1), by have := (byteRow ρ).isLt; split <;> omega⟩

theorem srcRow_apply (e k : Fin 256) : srcRow (ix2 e k) = BitVec.ofNat 32 (srcCol k).val := by
  have h : ∀ k : Fin 256, srcRow (ix2 0 k) = BitVec.ofNat 32 (srcCol k).val := by decide +kernel
  exact h k

/-- The bf16 words of the sixteen codes. -/
def codeWord (n : BitVec 8) : BitVec 16 :=
  match n.toNat with
  | 0 => 0xBF80#16 | 1 => 0xBF32#16 | 2 => 0xBF06#16 | 3 => 0xBECA#16 | 4 => 0xBE92#16 | 5 => 0xBE3D#16 | 6 => 0xBDBA#16 | 7 => 0x0000#16
  | 8 => 0x3DA3#16 | 9 => 0x3E25#16 | 10 => 0x3E7C#16 | 11 => 0x3EAD#16 | 12 => 0x3EE2#16 | 13 => 0x3F10#16 | 14 => 0x3F39#16 | _ => 0x3F80#16

/-- The tables' literal. -/
abbrev tabs : Vec Ideal S2x32x128 .i8 := fun i => lit0 (S2x32x128.rowMajor i)

/-- The first row-major position of a table's row. -/
def tabPos (t : Fin 2) (x : Fin 32) (i : Fin 128) : Fin 8192 := ⟨(t.val * 32 + x.val) * 128 + i.val, by omega⟩

theorem lit_words : ∀ (x : Fin 16) (i : Fin 32), lit0 (tabPos 1 ⟨x.val, by omega⟩ ⟨i.val, by omega⟩) ++ lit0 (tabPos 0 ⟨x.val, by omega⟩ ⟨i.val, by omega⟩) = codeWord (BitVec.ofNat 8 x.val) := by
  decide +kernel

end Cert.KernelIdeal.Proof

end
-- ==== Proof.Blocks.lean ====
/-
  The blocks the body reads, and the result arrays' elements, at coordinates of the arrays.
-/
module

public import proofs.«01_k».proof.Proof.IdealRun
public import proofs.«01_k».proof.Proof.Literals
public import Idealize.ShloMosaic.Lib.Pipeline.ValueKit

@[expose] public section

set_option maxRecDepth 16384

noncomputable section

namespace Cert.KernelIdeal.Proof

open Cert.KernelIdeal Cert.KernelIdeal.Gen

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

variable (m : (ℓ : Loc nD τ sig) → Buf (Elt Ideal) ℓ) (c : Dev nD)

theorem index0 : ∀ t : Fin cfg0.N, win0_0.index t = ![0, 0, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0, t.val] := (by decide +kernel : ∀ t : Fin grid0.N, _)

theorem lt_N (t : Fin cfg0.N) : t.val < 43 := t.isLt

theorem block0 (t : Fin cfg0.N) (a : Fin 128) (j : Fin 4096) :
    (iblk m c 0 t : Vec Ideal S1x128x4096 .bf16) (ix3 0 a j) = (m ((c : Thread nD τ).loc main_arg0) : Vec Ideal S1x128x4096 .bf16) (ix3 0 a j) := by
  rw [← V_main_arg0 m c]
  show V m c main_arg0 _ = V m c main_arg0 _
  congr 1
  blk_ext [index0]

theorem block1 (t : Fin cfg0.N) (o : Fin 256) (j : Fin 2048) :
    (iblk m c 1 t : Vec Ideal S256x2048 .i8) (ix2 o j)
      = (m ((c : Thread nD τ).loc main_arg1) : Vec Ideal S11008x2048 .i8) (ix2 (⟨256 * t.val + o.val, by have := lt_N t; omega⟩ : Fin 11008) j) := by
  rw [← V_main_arg1 m c]
  show V m c main_arg1 _ = V m c main_arg1 _
  congr 1
  blk_ext [index1]

theorem block2 (t : Fin cfg0.N) (o : Fin 256) (j : Fin 64) :
    (iblk m c 2 t : Vec Ideal S256x64 .i8) (ix2 o j)
      = (m ((c : Thread nD τ).loc main_arg2) : Vec Ideal S11008x64 .i8) (ix2 (⟨256 * t.val + o.val, by have := lt_N t; omega⟩ : Fin 11008) j) := by
  rw [← V_main_arg2 m c]
  show V m c main_arg2 _ = V m c main_arg2 _
  congr 1
  blk_ext [index2]

theorem block3 (t : Fin cfg0.N) (g : Fin 64) :
    (iblk m c 3 t : Vec Ideal S1x1x64 .f32) (ix3 0 0 g)
      = (m ((c : Thread nD τ).loc main_arg3) : Vec Ideal S2752 .f32) (ix1 (⟨64 * t.val + g.val, by have := lt_N t; omega⟩ : Fin 2752)) := by
  have e : (iblk m c 3 t : Vec Ideal S1x1x64 .f32) (ix3 0 0 g) = (V m c main_v22 : Vec Ideal S43x1x64 .f32) (ix3 (⟨t.val, t.isLt⟩ : Fin 43) 0 g) := by
    show V m c main_v22 _ = V m c main_v22 _
    congr 1
    blk_ext [index3]
  rw [e, V_main_v22]
  refine shapeCast_apply _ shapeCasts_S2752_S43x1x64 _ _ ?_
  rw [rowMajor_val3 _ _ _ rfl rfl]
  refine (rowMajor_val1 (ix1 (⟨64 * t.val + g.val, by have := lt_N t; omega⟩ : Fin 2752))).trans ?_
  show 64 * t.val + g.val = t.val * (1 * 64) + 0 * 64 + g.val
  omega

theorem block4 (t : Fin cfg0.N) : (iblk m c 4 t : Vec Ideal S1 .f32) (ix1 0)
      = (m ((c : Thread nD τ).loc main_arg4) : Vec Ideal S_ .f32) ix0 := by
  have e : (iblk m c 4 t : Vec Ideal S1 .f32) (ix1 0) = (V m c main_v23 : Vec Ideal S1 .f32) (ix1 0) := by
    show V m c main_v23 _ = V m c main_v23 _
    congr 1
    blk_ext [index4]
  rw [e, V_main_v23]
  refine shapeCast_apply _ shapeCasts_S_S1 _ _ ?_
  have := (S_.rowMajor ix0).isLt
  have := (S1.rowMajor (ix1 0)).isLt
  show (S_.rowMajor ix0).val = (S1.rowMajor (ix1 0)).val
  have h1 : S_.numel = 1 := rfl
  have h2 : S1.numel = 1 := rfl
  omega

theorem block5 (t : Fin cfg0.N) : (iblk m c 5 t : Vec Ideal S2x32x128 .i8) = tabs := by
  funext x
  refine Eq.trans ?_ (congrFun (V_main_c m c) x)
  show V m c main_c _ = V m c main_c _
  congr 1
  blk_ext [index5]

theorem block6 (t : Fin cfg0.N) (e k : Fin 256) : (iblk m c 6 t : Vec Ideal S256x256 .bf16) (ix2 e k) = (if e = srcCol k then 1 else 0 : EReal) := by
  have e1 : (iblk m c 6 t : Vec Ideal S256x256 .bf16) (ix2 e k) = (V m c main_v21 : Vec Ideal S256x256 .bf16) (ix2 e k) := by
    show V m c main_v21 _ = V m c main_v21 _
    congr 1
    blk_ext [index6]
  rw [e1, V_main_v21]
  show (if IntOp.cmpi .eq (BitVec.ofNat 32 e.val) (srcRow (ix2 e k)) = 1#1 then Ideal.ofBits .f32 0x3F800000#32 else Ideal.ofBits .f32 0x00000000#32 : EReal) = _
  rw [srcRow_apply, Ideal.ofBits_one_f32, Ideal.ofBits_zero_f32]
  have h : IntOp.cmpi .eq (BitVec.ofNat 32 e.val) (BitVec.ofNat 32 (srcCol k).val) = 1#1 ↔ e = srcCol k := by
    have := e.isLt
    have := (srcCol k).isLt
    show BitVec.ofBool (BitVec.ofNat 32 e.val == BitVec.ofNat 32 (srcCol k).val) = 1#1 ↔ _
    rw [Fin.ext_iff]
    constructor
    · intro h
      have h2 : (BitVec.ofNat 32 e.val == BitVec.ofNat 32 (srcCol k).val) = true := by
        by_contra h3
        rw [Bool.not_eq_true] at h3
        rw [h3] at h
        exact absurd h (by decide)
      have h4 := congrArg BitVec.toNat (beq_iff_eq.1 h2)
      simp only [BitVec.toNat_ofNat] at h4
      omega
    · intro h; rw [h]; simp
  by_cases hk : e = srcCol k
  · rw [if_pos (h.2 hk), if_pos hk]
  · rw [if_neg (fun x => hk (h.1 x)), if_neg hk]

end Cert.KernelIdeal.Proof

end
-- ==== Proof.Scales.lean ====
/-
  A block's scale at an index: its code times its group's scale, the offset added.
-/
module

public import proofs.«01_k».proof.Proof.Element

@[expose] public section

set_option maxRecDepth 16384

noncomputable section

namespace Cert.KernelIdeal.Proof

open Cert.KernelIdeal Cert.KernelIdeal.Gen

open Idealize.ShloMosaic

/-- The lanes the two halves of the groups' scales are gathered from. -/
def laneLo : IVec S8x128 32 := addi k0_pay39 k0_pay40
def laneHi : IVec S8x128 32 := addi k0_pay39 (broadcast S8x128 32#32)

theorem laneLo_apply (l : Fin 128) : (laneLo (ix2 0 l)).toNat % 128 = l.val / 4 := by
  have h : ∀ l : Fin 128, (laneLo (ix2 0 l)).toNat % 128 = l.val / 4 := by decide +kernel
  exact h l
theorem laneHi_apply (l : Fin 128) : (laneHi (ix2 0 l)).toNat % 128 = l.val / 4 + 32 := by
  have h : ∀ l : Fin 128, (laneHi (ix2 0 l)).toNat % 128 = l.val / 4 + 32 := by decide +kernel
  exact h l

/-- Lanes gathered along the rows. -/
def gathered (x : FVec Ideal S8x128 .f32) (i : IVec S8x128 32) : FVec Ideal S8x128 .f32 :=
  dynamicGather 1 x (shapeCast S8x128 (shapeCast S8x128x1 i shapeCasts_S8x128_S8x128x1) shapeCasts_S8x128x1_S8x128)

theorem gathered_apply (x : FVec Ideal S8x128 .f32) (i : IVec S8x128 32) (l g : Fin 128) (h : (i (ix2 0 l)).toNat % 128 = g.val) :
    gathered x i (ix2 0 l) = x (ix2 0 g) := by
  unfold gathered
  rw [shapeCast_comp, shapeCast_id, dynamicGather_apply_norm]
  congr 1
  funext b
  match b with
  | ⟨0, _⟩ => rfl
  | ⟨1, _⟩ => exact Fin.ext h

/-- The groups' scales of a point: the two halves of the lanes hold them alike. -/
theorem lanes_apply (S : Vec Ideal S1x1x64 .f32) (g : Fin 64) : k0_pay38 (F := Ideal) S S (ix2 (n0 := 8) (n1 := 128) 0 ⟨g.val, by omega⟩) = S (ix3 0 0 g) := by
  let v : FVec Ideal S1x64 .f32 := shapeCast S1x64 S shapeCasts_S1x1x64_S1x64
  have e : k0_pay38 (F := Ideal) S S (ix2 (n0 := 8) (n1 := 128) 0 ⟨g.val, by omega⟩)
      = shapeCast S1x128 (concatenate S1x128 1 [⟨S1x64, v⟩, ⟨S1x64, v⟩] concatenates_S1x64_S1x64_S1x128_d1) shapeCasts_S1x128_S1x128 (ix2 (n0 := 1) (n1 := 128) 0 ⟨g.val, by omega⟩) := by
    show broadcastTo S8x128 (shapeCast S1x128 (concatenate S1x128 1 [⟨S1x64, v⟩, ⟨S1x64, v⟩] concatenates_S1x64_S1x64_S1x128_d1) shapeCasts_S1x128_S1x128) broadcasts_S1x128_S8x128 _ = _
    unfold broadcastTo
    congr 1
    funext b
    match b with
    | ⟨0, _⟩ => rfl
    | ⟨1, _⟩ => rfl
  rw [e, shapeCast_id]
  have e2 : concatenate S1x128 1 [⟨S1x64, v⟩, ⟨S1x64, v⟩] concatenates_S1x64_S1x64_S1x128_d1 (ix2 (n0 := 1) (n1 := 128) 0 ⟨g.val, by omega⟩) = v (ix2 (n0 := 1) (n1 := 64) 0 g) := by
    refine concatenate_pair_apply_left (t := S1x128) (s₁ := S1x64) (s₂ := S1x64) (1 : Fin 2) v v _ _ rfl (ix2 (n0 := 1) (n1 := 64) 0 g) ?_
    intro b
    match b with
    | ⟨0, _⟩ => rfl
    | ⟨1, _⟩ => rfl
  rw [e2]
  refine shapeCast_apply S shapeCasts_S1x1x64_S1x64 _ _ ?_
  rw [rowMajor_val2 _ _ rfl, rowMajor_val3 _ _ _ rfl rfl]
  show 0 * (1 * 64) + 0 * 64 + g.val = 0 * 64 + g.val
  omega

/-- The two gathered halves side by side. -/
def groupRow (S : Vec Ideal S1x1x64 .f32) : FVec Ideal S8x256 .f32 :=
  concatenate S8x256 1 [⟨S8x128, gathered (k0_pay38 (F := Ideal) S S) laneLo⟩, ⟨S8x128, gathered (k0_pay38 (F := Ideal) S S) laneHi⟩] concatenates_S8x128_S8x128_S8x256_d1

theorem groupRow_apply (S : Vec Ideal S1x1x64 .f32) (o : Fin 256) : groupRow S (ix2 (n0 := 8) (n1 := 256) 0 o) = S (ix3 0 0 (⟨o.val / 4, by omega⟩ : Fin 64)) := by
  by_cases h : o.val < 128
  · have e : groupRow S (ix2 (n0 := 8) (n1 := 256) 0 o) = gathered (k0_pay38 (F := Ideal) S S) laneLo (ix2 (n0 := 8) (n1 := 128) 0 ⟨o.val, h⟩) := by
      refine concatenate_pair_apply_left (t := S8x256) (s₁ := S8x128) (s₂ := S8x128) (1 : Fin 2) _ _ _ _ rfl (ix2 (n0 := 8) (n1 := 128) 0 ⟨o.val, h⟩) ?_
      intro b
      match b with
      | ⟨0, _⟩ => rfl
      | ⟨1, _⟩ => rfl
    rw [e, gathered_apply _ _ _ (⟨o.val / 4, by omega⟩ : Fin 128) (laneLo_apply _)]
    exact lanes_apply S ⟨o.val / 4, by omega⟩
  · have e : groupRow S (ix2 (n0 := 8) (n1 := 256) 0 o) = gathered (k0_pay38 (F := Ideal) S S) laneHi (ix2 (n0 := 8) (n1 := 128) 0 ⟨o.val - 128, by omega⟩) := by
      refine concatenate_pair_apply_right (t := S8x256) (s₁ := S8x128) (s₂ := S8x128) (1 : Fin 2) _ _ _ _ rfl rfl (ix2 (n0 := 8) (n1 := 128) 0 ⟨o.val - 128, by omega⟩) ?_ ?_
      · intro b hb
        match b with
        | ⟨0, _⟩ => rfl
        | ⟨1, _⟩ => exact absurd rfl hb
      · show o.val - 128 + 128 = o.val
        omega
    rw [e, gathered_apply _ _ _ (⟨o.val / 4, by omega⟩ : Fin 128) ((laneHi_apply _).trans (by show (o.val - 128) / 4 + 32 = o.val / 4; omega))]
    exact lanes_apply S ⟨o.val / 4, by omega⟩

/-- A block's scale. -/
theorem amLo_apply (C : Vec Ideal S256x64 .i8) (S : Vec Ideal S1x1x64 .f32) (O : Vec Ideal S1 .f32) (b : Fin 64) (o : Fin 256) :
    amLo (F := Ideal) C S O (ix2 b o)
      = ((((C (ix2 o b)).toInt : ℝ) : EReal)) * S (ix3 0 0 (⟨o.val / 4, by omega⟩ : Fin 64)) + O (ix1 0) := by
  have hC : View.ld C (Rect.unit ![0, 0] S256x64.size inb_S256x64_S256x64_0_0) = C := View.ld_unit_zero (S := S256x64) (by funext a; fin_cases a <;> rfl) _ _
  have hS : View.ld S (Rect.unit ![0, 0, 0] S1x1x64.size inb_S1x1x64_S1x1x64_0_0_0) = S := View.ld_unit_zero (S := S1x1x64) (by funext a; fin_cases a <;> rfl) _ _
  have hO : View.ld O (Rect.unit ![0] S1.size inb_S1_S1_0) = O := View.ld_unit_zero (S := S1) (by funext a; fin_cases a; rfl) _ _
  unfold amLo
  rw [hC, hS, hO, ← groupRow_apply S o]
  have hB : broadcastTo S64x256 (extractStridedSlice S1x256 ![0, 0] (groupRow S) slices_S8x256_o0_0_S1x256) broadcasts_S1x256_S64x256 (ix2 b o)
      = groupRow S (ix2 (n0 := 8) (n1 := 256) 0 o) := by
    unfold broadcastTo
    show groupRow S _ = groupRow S _
    congr 1
    funext d
    match d with
    | ⟨0, _⟩ => rfl
    | ⟨1, _⟩ => exact Fin.ext (Nat.zero_add _)
  rw [← hB]
  have hf : (Shape.Idx.first (s := S1) (by decide)) = ix1 0 := by
    funext d; match d with | ⟨0, _⟩ => rfl
  rw [← hf]
  have hv : k0_pay42 (F := Ideal) (k0_pay37 (F := Ideal) C) (iota .tc S8x128 32 [1] iota_S8x128_d1_w32) (k0_pay38 (F := Ideal) S S) k0_pay39 k0_pay40 (O (Shape.Idx.first (by decide)))
      = truncf .bf16 (addf (mulf (sitofp .f32 (transpose S64x256 [1, 0] C transposes_S256x64_p1_0_S64x256))
          (broadcastTo S64x256 (extractStridedSlice S1x256 ![0, 0] (groupRow S) slices_S8x256_o0_0_S1x256) broadcasts_S1x256_S64x256))
        (broadcast S64x256 (O (Shape.Idx.first (by decide))))) bitsLt_bf16_f32 := (rfl)
  rw [hv]
  have hT : transpose S64x256 [1, 0] C transposes_S256x64_p1_0_S64x256 (ix2 b o) = C (ix2 o b) := by
    show C _ = C _
    congr 1
    funext d
    match d with
    | ⟨0, _⟩ => rfl
    | ⟨1, _⟩ => rfl
  rw [← hT]
  rfl

end Cert.KernelIdeal.Proof

end
-- ==== Proof.Reblock.lean ====
/-
  The sixteen chunks' sums over a tile's rows are the sum over the bytes of a weight row, both nibbles of each.
-/
module

public import proofs.«01_k».proof.Proof.Literals

@[expose] public section

set_option maxRecDepth 16384

noncomputable section

namespace Cert.KernelIdeal.Proof

/-- The row of a byte and a nibble. -/
def rowOf (j : Fin 128) (h : Bool) : Fin 256 := ⟨64 * (j.val / 32) + (if h then 32 else 0) + 16 * (j.val % 2) + j.val % 32 / 2, by split <;> omega⟩

theorem rowOf_row : ∀ ρ : Fin 256, rowOf (byteRow ρ) (hiRow ρ) = ρ := by decide +kernel
theorem row_rowOf : ∀ (j : Fin 128) (h : Bool), (byteRow (rowOf j h), hiRow (rowOf j h)) = (j, h) := by decide +kernel

/-- A tile's rows are its bytes with a nibble chosen. -/
theorem rows_bijective : Function.Bijective fun ρ : Fin 256 => (byteRow ρ, hiRow ρ) :=
  ⟨fun a b h => (rowOf_row a).symm.trans ((congrArg (fun p : Fin 128 × Bool => rowOf p.1 p.2) h).trans (rowOf_row b)), fun p => ⟨rowOf p.1 p.2, row_rowOf p.1 p.2⟩⟩

theorem sum_rows (g : Fin 128 → Bool → EReal) : ∑ ρ : Fin 256, g (byteRow ρ) (hiRow ρ) = ∑ j : Fin 128, (g j true + g j false) := by
  rw [Fintype.sum_bijective _ rows_bijective (fun ρ => g (byteRow ρ) (hiRow ρ)) (fun p : Fin 128 × Bool => g p.1 p.2) (fun _ => rfl),
    Fintype.sum_prod_type]
  refine Finset.sum_congr rfl fun j _ => ?_
  rw [Fintype.sum_bool]

theorem sum_chunks (f : Fin 2048 → EReal) : ∑ c : Fin 16, ∑ j : Fin 128, f ⟨128 * c.val + j.val, by omega⟩ = ∑ k : Fin 2048, f k := by
  rw [← Fintype.sum_prod_type' (fun (c : Fin 16) (j : Fin 128) => f ⟨128 * c.val + j.val, by omega⟩)]
  refine Fintype.sum_equiv (finProdFinEquiv (m := 16) (n := 128)) _ _ fun p => ?_
  congr 1
  apply Fin.ext
  show 128 * p.1.val + p.2.val = p.2.val + 128 * p.1.val
  omega

end Cert.KernelIdeal.Proof

end
-- ==== Proof.Passes.lean ====
/-
  The matrix units over the reals. An accumulate adds its pass to the rows it finds, live or not, since rows not live
  hold zero; so the two accumulators together hold the sum of the sixteen chunks' products. The permutation of `x`
  leaves the units with empty registers and zero rows, and each of its writes is one pass.
-/
module

public import proofs.«01_k».proof.Proof.Tile
public import Idealize.ShloMosaic.Lib.Pointwise
public import Idealize.ShloMosaic.Lib.MatmulPlain
public import proofs.«01_k».proof.Proof.BodyValue
public import Idealize.ShloMosaic.Lib.Pipeline.ValueKit

@[expose] public section

set_option maxRecDepth 16384

noncomputable section

namespace Cert.KernelIdeal.Proof

open Cert.KernelIdeal Cert.KernelIdeal.Gen

open Idealize.ShloMosaic

open scoped BigOperators

/-- Rows not live hold zero. -/
theorem read_not_live (s : Mxu Ideal) (q : Fin 2) {A M : Nat} (h : Mxu.Fits A M) (a : Fin M) (b : Fin 256) (hl : s.live q (Mxu.row h a) = false) :
    s.read q A h (ix2 a b) = (0 : EReal) :=
  (s.clean q (Mxu.row h a) b hl).trans Ideal.ofBits_zero_f32

/-- An accumulate adds its pass. -/
theorem read_accBy_add (s : Mxu Ideal) (q : Fin 2) {A M : Nat} {φ : FTy} (t : Mxu.Staged Ideal) (l : FVec Ideal (Mxu.STile M) φ) (h : Mxu.Fits A M)
    (a : Fin M) (b : Fin 256) : (s.accBy q t A l h).read q A h (ix2 a b) = (s.read q A h (ix2 a b) + t.pass l (ix2 a b) : EReal) := by
  refine (congrFun (Mxu.read_accBy s q A t l h) (ix2 a b)).trans ?_
  show Mxu.deposit (s.live q (Mxu.row h a)) (s.read q A h (ix2 a b)) (t.pass l (ix2 a b)) = _
  cases hl : s.live q (Mxu.row h a)
  · rw [Mxu.deposit_false, read_not_live s q h a b hl, zero_add]
  · rw [Mxu.deposit_true]; rfl

/-- One pass at an index. -/
theorem pass_apply {φ ψ : FTy} (v : FVec Ideal (Mxu.STile 256) φ) (l : FVec Ideal (Mxu.STile 128) ψ) (a : Fin 128) (b : Fin 256) :
    (⟨φ, false, v⟩ : Mxu.Staged Ideal).pass l (ix2 a b) = ∑ k : Fin 256, (l (ix2 a k) * v (ix2 k b) : EReal) := by
  have h := Ideal.matmul_plain_apply (M := 128) (K := 256) (N := 256) none l v (fun _ => (0 : EReal)) a b
  simp only [← ix2_eq_valueIdx] at h
  rw [zero_add] at h
  refine Eq.trans ?_ h
  rw [Mxu.Staged.pass_false, Ideal.mxuPass_def, Ideal.matmul_apply, zero_add]
  rfl

/-- No tile is staged. -/
def Quiet (s : Mxu Ideal) : Prop := ∀ q r, s.reg q r = none

/-- The two accumulators together. -/
def total (s : Mxu Ideal) (a : Fin 128) (b : Fin 256) : EReal := (s.read 0 0 fits_0_128 (ix2 a b) + s.read 1 0 fits_0_128 (ix2 a b) : EReal)

/-- An accumulate of either unit adds its pass to the two together. -/
theorem total_accLhs (s : Mxu Ideal) (q r : Fin 2) (l : FVec Ideal S128x256 .bf16) (a : Fin 128) (b : Fin 256) :
    total (s.accLhs q r 0 l fits_0_128) a b = (total s a b + (s.staged q r).pass l (ix2 a b) : EReal) := by
  unfold total
  fin_cases q
  · have h0 : (s.accLhs 0 r 0 l fits_0_128).read 0 0 fits_0_128 (ix2 a b) = _ := read_accBy_add s 0 (s.staged 0 r) l fits_0_128 a b
    have h1 : (s.accLhs 0 r 0 l fits_0_128).read 1 0 fits_0_128 = s.read 1 0 fits_0_128 :=
      Mxu.read_accLhs_ne s 0 r 0 l fits_0_128 1 0 fits_0_128 (.inl (by decide))
    rw [Fin.zero_eta, h0, h1, add_right_comm]
  · have h0 : (s.accLhs 1 r 0 l fits_0_128).read 1 0 fits_0_128 (ix2 a b) = _ := read_accBy_add s 1 (s.staged 1 r) l fits_0_128 a b
    have h1 : (s.accLhs 1 r 0 l fits_0_128).read 0 0 fits_0_128 = s.read 0 0 fits_0_128 :=
      Mxu.read_accLhs_ne s 1 r 0 l fits_0_128 0 0 fits_0_128 (.inl (by decide))
    rw [Fin.mk_one, h0, h1, add_assoc]

theorem quiet_pass {T : Fin 16 → FVec Ideal S256x256 .bf16} {L : Fin 16 → FVec Ideal S128x256 .bf16} {s : Mxu Ideal} (h : Quiet s) (c : Fin 16) :
    Quiet (pass T L s c) := by
  intro q r
  unfold pass
  by_cases e : q = unitOf c ∧ r = regOf c
  · rw [e.1, e.2]; exact Mxu.reg_accLhs _ _ _ _ _ _
  · rw [Mxu.reg_accLhs_ne _ _ _ _ _ _ _ _ e, Mxu.reg_pushed_ne _ _ _ _ _ _ _ e]; exact h q r

theorem total_pass {T : Fin 16 → FVec Ideal S256x256 .bf16} {L : Fin 16 → FVec Ideal S128x256 .bf16} {s : Mxu Ideal} (h : Quiet s) (c : Fin 16)
    (a : Fin 128) (b : Fin 256) : total (pass T L s c) a b = (total s a b + ∑ k : Fin 256, (L c (ix2 a k) * T c (ix2 k b) : EReal) : EReal) := by
  unfold pass
  rw [total_accLhs]
  have e1 : total (s.pushed (unitOf c) (regOf c) false (T c)) a b = total s a b := by unfold total; rw [Mxu.read_pushed, Mxu.read_pushed]
  rw [e1, Mxu.staged_eq, Mxu.reg_pushed_of_none _ _ _ _ _ (h _ _), Option.getD_some, pass_apply]

theorem total_passes (T : Fin 16 → FVec Ideal S256x256 .bf16) (L : Fin 16 → FVec Ideal S128x256 .bf16) (a : Fin 128) (b : Fin 256) :
    ∀ (cs : List (Fin 16)) (s : Mxu Ideal), Quiet s →
      total (cs.foldl (pass T L) s) a b = (total s a b + (cs.map fun c => ∑ k : Fin 256, (L c (ix2 a k) * T c (ix2 k b) : EReal)).sum : EReal)
  | [], s, _ => by rw [List.foldl_nil, List.map_nil, List.sum_nil, add_zero]
  | c :: cs, s, h => by
    rw [List.foldl_cons, total_passes T L a b cs _ (quiet_pass h c), total_pass h, List.map_cons, List.sum_cons, add_assoc]

/-- The product of a grid point: the sum over the sixteen chunks. -/
theorem popped_passes (T : Fin 16 → FVec Ideal S256x256 .bf16) (L : Fin 16 → FVec Ideal S128x256 .bf16) (s : Mxu Ideal) (hs : Quiet s)
    (h0 : ∀ q a b, s.read q 0 fits_0_128 (ix2 (n0 := 128) a b) = (0 : EReal)) (a : Fin 128) (b : Fin 256) :
    popped (passes s T L) (ix2 a b) = ∑ c : Fin 16, ∑ k : Fin 256, (L c (ix2 a k) * T c (ix2 k b) : EReal) := by
  have e : popped (passes s T L) (ix2 a b) = total (passes s T L) a b := by
    unfold popped total
    rw [Mxu.read_pop_ne _ _ _ _ _ _ _ (.inl (by decide))]
    rfl
  rw [e]
  unfold passes
  rw [total_passes T L a b chunks s hs]
  unfold total
  rw [h0, h0, zero_add, zero_add, Fin.sum_univ_def]
  rfl

theorem quiet_init : Quiet Mxu.init := fun _ _ => Mxu.reg_init _ _
theorem read_init_zero (q : Fin 2) (a : Fin 128) (b : Fin 256) : (Mxu.init : Mxu Ideal).read q 0 fits_0_128 (ix2 a b) = (0 : EReal) :=
  read_not_live _ q fits_0_128 a b rfl

/-! ## The permutation -/

/-- What a write of the permutation holds. -/
def permVal (X : Vec Ideal S1x128x4096 .bf16) (P : FVec Ideal S256x256 .bf16) (c : Fin 16) : FVec Ideal S128x256 .f32 :=
  fun i => (⟨.bf16, false, P⟩ : Mxu.Staged Ideal).pass (xCols X c) (ix2 (n0 := 128) (n1 := 256) (i 0) (i 1))

/-- The permutation's invariant. -/
structure Permuting (X : Vec Ideal S1x128x4096 .bf16) (P : FVec Ideal S256x256 .bf16)
    (a : Loaded Ideal × List (View.Piece (Elt Ideal) S128x4096 .bf16)) : Prop where
  quiet : Quiet a.1.1
  zero : ∀ q i j, a.1.1.read q 0 fits_0_128 (ix2 (n0 := 128) i j) = (0 : EReal)
  held : ∀ q, a.1.1.gmr q = some ⟨.bf16, false, P⟩
  writes : ∀ p ∈ a.2, ∃ c, p = permPiece c (permVal X P c)

theorem zero_pop {s : Mxu Ideal} (h : Quiet s) (q : Fin 2) (h0 : ∀ q', q' ≠ q → ∀ i j, s.read q' 0 fits_0_128 (ix2 (n0 := 128) i j) = (0 : EReal)) :
    ∀ q' i j, (s.pop q 0 128 fits_0_128).read q' 0 fits_0_128 (ix2 (n0 := 128) i j) = (0 : EReal) := by
  intro q' i j
  by_cases e : q' = q
  · subst e; rw [Mxu.read_pop]; exact Ideal.ofBits_zero_f32
  · rw [Mxu.read_pop_ne _ _ _ _ _ _ _ (.inl e)]; exact h0 q' e i j

theorem permuting_step {X : Vec Ideal S1x128x4096 .bf16} {P : FVec Ideal S256x256 .bf16}
    {a : Loaded Ideal × List (View.Piece (Elt Ideal) S128x4096 .bf16)} (h : Permuting X P a) (c : Fin 16) : Permuting X P (permStep X a c) := by
  have hg : (a.1.1.gmr (unitOf c)).get (a.1.2 _) = ⟨.bf16, false, P⟩ := by
    apply Option.get_of_eq_some; exact h.held _
  refine ⟨h.quiet, zero_pop (s := a.1.1.accBy (unitOf c) ((a.1.1.gmr (unitOf c)).get (a.1.2 _)) 0 (xCols X c) fits_0_128) h.quiet _
    fun q' e i j => ?_, h.held, ?_⟩
  · rw [Mxu.read_accBy_ne _ _ _ _ _ _ _ _ _ (.inl e)]; exact h.zero q' i j
  · intro p hp
    rcases List.mem_cons.1 hp with rfl | hp
    · refine ⟨c, congrArg (permPiece c) (funext fun i => ?_)⟩
      obtain ⟨i, j, rfl⟩ : ∃ x y, i = ix2 (n0 := 128) (n1 := 256) x y := ⟨i 0, i 1, eq_ix2 i⟩
      rw [hg, read_accBy_add, h.zero, zero_add]
      rfl
    · exact h.writes p hp

/-- The state after the first chunk, before the second. -/
abbrev permA (X : Vec Ideal S1x128x4096 .bf16) (P : FVec Ideal S256x256 .bf16) : Mxu Ideal :=
  ((Mxu.init.pushed 0 0 false P).pushed 1 0 false P).accLhs 0 0 0 (xCols X 0) fits_0_128
abbrev permB (X : Vec Ideal S1x128x4096 .bf16) (P : FVec Ideal S256x256 .bf16) : Mxu Ideal :=
  ((permA X P).pop 0 0 128 fits_0_128).accLhs 1 0 0 (xCols X 1) fits_0_128

theorem permuting_start (X : Vec Ideal S1x128x4096 .bf16) (P : FVec Ideal S256x256 .bf16) : Permuting X P (permStart X P) := by
  have s0 : ((Mxu.init.pushed 0 0 false P).pushed 1 0 false P).reg 0 0 = some ⟨.bf16, false, P⟩ := by
    rw [Mxu.reg_pushed_ne _ _ _ _ _ _ _ (by decide)]; exact Mxu.reg_pushed_of_none _ _ _ _ _ (Mxu.reg_init _ _)
  have s1 : ((Mxu.init.pushed 0 0 false P).pushed 1 0 false P).reg 1 0 = some ⟨.bf16, false, P⟩ :=
    Mxu.reg_pushed_of_none _ _ _ _ _ (by rw [Mxu.reg_pushed_ne _ _ _ _ _ _ _ (by decide)]; exact Mxu.reg_init _ _)
  have a1 : (permA X P).reg 1 0 = some ⟨.bf16, false, P⟩ := by
    unfold permA; rw [Mxu.reg_accLhs_ne _ _ _ _ _ _ _ _ (by decide)]; exact s1
  have ra : ∀ q i j, q ≠ 0 → (permA X P).read q 0 fits_0_128 (ix2 (n0 := 128) i j) = (0 : EReal) := fun q i j e => by
    unfold permA; rw [Mxu.read_accLhs_ne _ _ _ _ _ _ _ _ _ (.inl e), Mxu.read_pushed, Mxu.read_pushed]; exact read_init_zero q i j
  have va : ∀ i j, (permA X P).read 0 0 fits_0_128 (ix2 (n0 := 128) i j) = permVal X P 0 (ix2 i j) := fun i j => by
    refine (read_accBy_add _ 0 (Mxu.staged _ 0 0) (xCols X 0) fits_0_128 i j).trans ?_
    rw [Mxu.read_pushed, Mxu.read_pushed, read_init_zero, zero_add, Mxu.staged_eq, s0]
    rfl
  have vb : ∀ i j, (permB X P).read 1 0 fits_0_128 (ix2 (n0 := 128) i j) = permVal X P 1 (ix2 i j) := fun i j => by
    refine (read_accBy_add _ 1 (Mxu.staged _ 1 0) (xCols X 1) fits_0_128 i j).trans ?_
    rw [Mxu.read_pop_ne _ _ _ _ _ _ _ (.inl (by decide)), ra 1 i j (by decide), zero_add, Mxu.staged_eq, Mxu.reg_pop, a1]
    rfl
  have rb : ∀ i j, (permB X P).read 0 0 fits_0_128 (ix2 (n0 := 128) i j) = (0 : EReal) := fun i j => by
    unfold permB; rw [Mxu.read_accLhs_ne _ _ _ _ _ _ _ _ _ (.inl (by decide)), Mxu.read_pop]; exact Ideal.ofBits_zero_f32
  have qb : Quiet (permB X P) := by
    intro q r
    unfold permB
    by_cases e : q = 1 ∧ r = 0
    · rw [e.1, e.2]; exact Mxu.reg_accLhs _ _ _ _ _ _
    · rw [Mxu.reg_accLhs_ne _ _ _ _ _ _ _ _ e, Mxu.reg_pop]
      by_cases e0 : q = 0 ∧ r = 0
      · rw [e0.1, e0.2]; exact Mxu.reg_accLhs _ _ _ _ _ _
      · rw [Mxu.reg_accLhs_ne _ _ _ _ _ _ _ _ e0, Mxu.reg_pushed_ne _ _ _ _ _ _ _ e, Mxu.reg_pushed_ne _ _ _ _ _ _ _ e0]
        exact Mxu.reg_init _ _
  refine ⟨qb, zero_pop (s := permB X P) qb 1 fun q' e i j => ?_, fun q => ?_, ?_⟩
  · have : q' = 0 := by omega
    subst this; exact rb i j
  · show (permB X P).gmr q = _
    unfold permB
    by_cases e : q = 1
    · subst e; rw [Mxu.gmr_accLhs, Mxu.staged_eq, Mxu.reg_pop, a1]; rfl
    · have : q = 0 := by omega
      subst this
      rw [Mxu.gmr_accLhs_ne _ _ _ _ _ _ _ (by decide), Mxu.gmr_pop, Mxu.gmr_accLhs, Mxu.staged_eq, s0]; rfl
  · intro p hp
    rcases List.mem_cons.1 hp with rfl | hp
    · refine ⟨1, congrArg (permPiece 1) (funext fun i => ?_)⟩
      obtain ⟨i, j, rfl⟩ : ∃ x y, i = ix2 (n0 := 128) (n1 := 256) x y := ⟨i 0, i 1, eq_ix2 i⟩
      exact vb i j
    · rcases List.mem_cons.1 hp with rfl | hp
      · refine ⟨0, congrArg (permPiece 0) (funext fun i => ?_)⟩
        obtain ⟨i, j, rfl⟩ : ∃ x y, i = ix2 (n0 := 128) (n1 := 256) x y := ⟨i 0, i 1, eq_ix2 i⟩
        exact va i j
      · cases hp

theorem permuting_foldl {X : Vec Ideal S1x128x4096 .bf16} {P : FVec Ideal S256x256 .bf16} :
    ∀ (cs : List (Fin 16)) (a : Loaded Ideal × List (View.Piece (Elt Ideal) S128x4096 .bf16)), Permuting X P a →
      Permuting X P (cs.foldl (permStep X) a)
  | [], _, h => h
  | c :: cs, a, h => permuting_foldl cs _ (permuting_step h c)

theorem permuting (X : Vec Ideal S1x128x4096 .bf16) (P : Vec Ideal S256x256 .bf16) : Permuting X P (perm X P) := by
  have e : shapeCast S256x256 (View.ld P (Rect.unit ![0, 0] S256x256.size inb_S256x256_S256x256_0_0)) shapeCasts_S256x256_S256x256 = P := by
    refine (shapeCast_self (s := S256x256) _ _).trans (View.ld_unit_zero (S := S256x256) (by funext a; fin_cases a <;> rfl) _ _)
  unfold perm
  rw [e]
  exact permuting_foldl _ _ (permuting_start X P)

/-- The column of `x` at an index of the permuted `x`'s chunk. -/
def colOf (j : Fin 4096) (k : Fin 256) : Fin 4096 := ⟨256 * (j.val / 256) + k.val, by omega⟩

/-- The permuted `x`: each chunk's columns by the permutation matrix. -/
theorem perm_apply (X : Vec Ideal S1x128x4096 .bf16) (P : Vec Ideal S256x256 .bf16) (a : Fin 128) (j : Fin 4096) :
    View.canon (perm X P).2 (ix2 a j)
      = ∑ k : Fin 256, (X (ix3 0 a (colOf j k)) * P (ix2 k ⟨j.val % 256, Nat.mod_lt _ (by decide)⟩) : EReal) := by
  refine View.canon_apply_of_pieces (fun y : S128x4096.Idx => (∑ k : Fin 256, (X (ix3 0 (y 0) (colOf (y 1) k)) * P (ix2 k ⟨(y 1).val % 256, Nat.mod_lt _ (by decide)⟩) : EReal) : EReal))
    _ (fun p hp x => ?_) (ix2 a j) (perm_cover X P _)
  obtain ⟨c, rfl⟩ := (permuting X P).writes p hp
  obtain ⟨r, k, rfl⟩ : ∃ r k, x = ix2 (n0 := 128) (n1 := 256) r k := ⟨x 0, x 1, eq_ix2 x⟩
  have hc := c.isLt
  have e : (permPiece (F := Ideal) c (permVal X P c)).1.emb (ix2 r k) = ix2 (n0 := 128) (n1 := 4096) r ⟨256 * c.val + k.val, by omega⟩ := by
    funext a; apply Fin.ext
    refine (ValueKit.rect_emb_unit_val _ _ (inb_xp c) _ a).trans ?_
    fin_cases a
    · exact Nat.zero_add _
    · rfl
  rw [e]
  refine (congrFun (shapeCast_self (s := S128x256) (permVal X P c) shapeCasts_S128x256_S128x256) (ix2 r k)).trans ?_
  refine (pass_apply (φ := .bf16) (ψ := .bf16) P (xCols X c) r k).trans (Finset.sum_congr rfl fun k' _ => ?_)
  have e1 : xCols X c (ix2 r k') = X (ix3 0 r (colOf ⟨256 * c.val + k.val, by omega⟩ k')) := by
    unfold xCols
    refine (shapeCast_apply _ shapeCasts_S1x128x256_S128x256 (ix2 r k') (ix3 (n0 := 1) (n1 := 128) (n2 := 256) 0 r k')
      (by rw [rowMajor_val3 _ 32768 256 rfl rfl, rowMajor_val2 _ 256 rfl]; simp)).trans ?_
    refine View.ld_unit_apply_of X _ _ _ _ _ fun a => ?_
    fin_cases a
    · rfl
    · exact (Nat.zero_add _).symm
    · show 256 * ((256 * c.val + k.val) / 256) + k'.val = 256 * c.val + k'.val
      omega
  have e2 : k = ⟨(256 * c.val + k.val) % 256, Nat.mod_lt _ (by decide)⟩ := Fin.ext (by show k.val = (256 * c.val + k.val) % 256; omega)
  rw [e1]
  exact congrArg (fun z => (X (ix3 0 r (colOf ⟨256 * c.val + k.val, by omega⟩ k')) * P (ix2 k' z) : EReal)) e2

end Cert.KernelIdeal.Proof

end
-- ==== Proof.Product.lean ====
/-
  The product of a grid point as one sum over the bytes of a weight row: each byte's two nibbles, looked up, scaled by
  their block's scale and multiplied by the two elements of `x` they stand against.
-/
module

public import proofs.«01_k».proof.Proof.Blocks
public import proofs.«01_k».proof.Proof.Scales
public import proofs.«01_k».proof.Proof.Reblock
public import proofs.«01_k».proof.Proof.Passes

@[expose] public section

set_option maxRecDepth 16384

noncomputable section

namespace Cert.KernelIdeal.Proof

open Cert.KernelIdeal Cert.KernelIdeal.Gen

open Idealize.ShloMosaic Idealize.ShloMosaic.TcCoe

/-! ## The sum -/

/-- A byte's high or low nibble looked up. -/
def codeVal (h : Bool) (b : BitVec 8) : EReal := Ideal.ofBits .bf16 (codeWord (nib h b))

/-- The scale of block `b` of weight row `n`. -/
def amVal (C : Vec Ideal S11008x64 .i8) (S : Vec Ideal S2752 .f32) (O : Vec Ideal S_ .f32) (n : Fin 11008) (b : Fin 64) : EReal :=
  ((((C (ix2 n b)).toInt : ℝ) : EReal)) * S (ix1 (⟨n.val / 4, by omega⟩ : Fin 2752)) + O ix0

/-- The element of `x` that a byte's nibble stands against. -/
def xVal (X : Vec Ideal S1x128x4096 .bf16) (a : Fin 128) (k : Fin 2048) (h : Bool) : EReal :=
  X (ix3 0 a (⟨2 * k.val + (if h then 0 else 1), by split <;> omega⟩ : Fin 4096))

/-- A byte's nibble in the product. -/
def term (X : Vec Ideal S1x128x4096 .bf16) (W : Vec Ideal S11008x2048 .i8) (C : Vec Ideal S11008x64 .i8) (S : Vec Ideal S2752 .f32) (O : Vec Ideal S_ .f32)
    (a : Fin 128) (n : Fin 11008) (k : Fin 2048) (h : Bool) : EReal :=
  xVal X a k h * (codeVal h (W (ix2 n k)) * amVal C S O n ⟨k.val / 32, by omega⟩)

/-- The product at an index. -/
def yVal (X : Vec Ideal S1x128x4096 .bf16) (W : Vec Ideal S11008x2048 .i8) (C : Vec Ideal S11008x64 .i8) (S : Vec Ideal S2752 .f32) (O : Vec Ideal S_ .f32)
    (a : Fin 128) (n : Fin 11008) : EReal :=
  ∑ k : Fin 2048, (term X W C S O a n k true + term X W C S O a n k false)

/-! ## The tables' words -/

theorem setWidth_signExtend (v : BitVec 8) : (v.signExtend 32).setWidth 8 = v := by
  apply BitVec.eq_of_getLsbD_eq
  intro i hi
  have h32 : i < 32 := by omega
  simp [BitVec.getLsbD_setWidth, BitVec.getElem_signExtend, hi, h32]

theorem nib_lt (h : Bool) (b : BitVec 8) : (nib h b).toNat < 16 := by
  unfold nib
  rw [BitVec.toNat_and]
  exact Nat.lt_of_le_of_lt Nat.and_le_right (by decide)

theorem signExtend_small (n : BitVec 8) (hn : n.toNat < 16) : (n.signExtend 32).toNat % 128 = n.toNat := by
  have h : ∀ x : Fin 16, ((BitVec.ofNat 8 x.val).signExtend 32).toNat % 128 = x.val := by decide +kernel
  have e : n = BitVec.ofNat 8 n.toNat := by simp
  have := h ⟨n.toNat, hn⟩
  rw [← e] at this
  exact this

theorem tab_at (t : Fin 2) (off : Fin 3 → Nat) (inb) (ht : off = ![t.val, 0, 0]) (x : Fin 32) (i : Fin 128) :
    View.ld tabs (Rect.unit off S1x32x128.size inb) (ix3 (0 : Fin 1) x i) = lit0 (tabPos t x i) := by
  subst ht
  refine (View.ld_unit_apply_of tabs _ _ inb _ (ix3 t x i) ?_).trans ?_
  · intro a
    match a with
    | ⟨0, _⟩ => rfl
    | ⟨1, _⟩ => exact (Nat.zero_add _).symm
    | ⟨2, _⟩ => exact (Nat.zero_add _).symm
  · show lit0 _ = lit0 _
    congr 1
    apply Fin.ext
    refine (rowMajor_val3 (ix3 t x i) _ _ rfl rfl).trans ?_
    show t.val * (32 * 128) + x.val * 128 + i.val = (t.val * 32 + x.val) * 128 + i.val
    omega

theorem wordOf_tabs (i : Fin 32) (n : BitVec 8) (hn : n.toNat < 16) : wordOf (tabLo (F := Ideal) tabs) (tabHi (F := Ideal) tabs) i n = codeWord n := by
  have e : (⟨(n.signExtend 32).toNat % 128, Nat.mod_lt _ (by decide)⟩ : Fin 128) = ⟨n.toNat, by omega⟩ := Fin.ext (signExtend_small n hn)
  have e2 : (⟨n.toNat % 32, Nat.mod_lt _ (by decide)⟩ : Fin 32) = ⟨n.toNat, by omega⟩ := Fin.ext (Nat.mod_eq_of_lt (by omega))
  unfold wordOf tabLo tabHi
  rw [e, table_apply, table_apply, setWidth_signExtend, setWidth_signExtend, tab_at 0 ![0, 0, 0] inb_S2x32x128_S1x32x128_0_0_0 rfl, tab_at 1 ![1, 0, 0] inb_S2x32x128_S1x32x128_1_0_0 rfl]
  have := lit_words ⟨n.toNat, hn⟩ i
  rw [show BitVec.ofNat 8 (⟨n.toNat, hn⟩ : Fin 16).val = n by simp] at this
  rw [← this]
  exact congrArg₂ (fun p q : Fin 32 => lit0 (tabPos 1 p ⟨i.val, by omega⟩) ++ lit0 (tabPos 0 q ⟨i.val, by omega⟩)) e2 e2

/-! ## The point's product -/

variable (m : (ℓ : Loc nD τ sig) → Buf (Elt Ideal) ℓ) (c : Dev nD)

/-- The arguments. -/
abbrev argX : Vec Ideal S1x128x4096 .bf16 := m ((c : Thread nD τ).loc main_arg0)
abbrev argW : Vec Ideal S11008x2048 .i8 := m ((c : Thread nD τ).loc main_arg1)
abbrev argC : Vec Ideal S11008x64 .i8 := m ((c : Thread nD τ).loc main_arg2)
abbrev argS : Vec Ideal S2752 .f32 := m ((c : Thread nD τ).loc main_arg3)
abbrev argO : Vec Ideal S_ .f32 := m ((c : Thread nD τ).loc main_arg4)

/-- The permuted `x`. -/
theorem xpAt_apply (a : Fin 128) (j : Fin 4096) (k : Fin 256) (q : Fin 4096) (hk : k.val = j.val % 256) (hq : q.val = 256 * (j.val / 256) + (srcCol k).val) :
    xpAt (F := Ideal) m c (ix2 a j) = argX m c (ix3 0 a q) := by
  have hk' : (⟨j.val % 256, Nat.mod_lt _ (by decide)⟩ : Fin 256) = k := Fin.ext hk.symm
  have hq' : colOf j (srcCol k) = q := Fin.ext hq.symm
  unfold xpAt permAt
  rw [perm_apply, hk', Finset.sum_eq_single (srcCol k)]
  · rw [block6, if_pos rfl, mul_one, hq', block0]
  · intro e _ he
    rw [block6, if_neg he, mul_zero]
  · intro h; exact absurd (Finset.mem_univ _) h

theorem cols_apply (X : Vec Ideal S128x4096 .bf16) (k : Fin 16) (a : Fin 128) (ρ : Fin 256) :
    cols X k (ix2 a ρ) = X (ix2 a (⟨256 * k.val + ρ.val, by omega⟩ : Fin 4096)) := by
  refine View.ld_unit_apply_of X _ _ (inb_xp k) _ _ ?_
  intro d
  match d with
  | ⟨0, _⟩ => exact (Nat.zero_add _).symm
  | ⟨1, _⟩ => rfl

theorem quiet_start (t : Fin cfg0.N) : Quiet (startAt (F := Ideal) m c t) := by
  unfold startAt permAt
  split
  · exact (permuting _ _).quiet
  · exact quiet_init

theorem zero_start (t : Fin cfg0.N) : ∀ q a b, (startAt (F := Ideal) m c t).read q 0 fits_0_128 (ix2 (n0 := 128) a b) = (0 : EReal) := by
  unfold startAt permAt
  split
  · exact (permuting _ _).zero
  · exact read_init_zero

/-- The product of a grid point. -/
theorem yAt_apply (t : Fin cfg0.N) (a : Fin 128) (o : Fin 256) (n : Fin 11008) (hn : n.val = 256 * t.val + o.val) :
    yAt (F := Ideal) m c t (ix2 a o) = yVal (argX m c) (argW m c) (argC m c) (argS m c) (argO m c) a n := by
  have ht := lt_N t
  have hn' : (⟨256 * t.val + o.val, by omega⟩ : Fin 11008) = n := Fin.ext hn.symm
  unfold yAt product
  rw [popped_passes _ _ _ (quiet_start m c t) (zero_start m c t)]
  unfold yVal
  rw [← sum_chunks]
  refine Finset.sum_congr rfl fun k _ => ?_
  rw [← sum_rows fun j h => term (argX m c) (argW m c) (argC m c) (argS m c) (argO m c) a n ⟨128 * k.val + j.val, by omega⟩ h]
  refine Finset.sum_congr rfl fun ρ _ => ?_
  have hk := k.isLt
  have hρ := ρ.isLt
  have hb : (byteRow ρ).val < 128 := (byteRow ρ).isLt
  have hs : (srcCol ρ).val = 2 * (byteRow ρ).val + (if hiRow ρ then 0 else 1) := rfl
  have hi : (if hiRow ρ then 0 else 1) < 2 := by split <;> decide
  rw [cols_apply, tile_apply, block5, wordOf_tabs _ _ (nib_lt _ _), amOf_apply, amLo_apply, block1, block2, block3, block4, hn',
    xpAt_apply m c a _ ρ ⟨2 * (128 * k.val + (byteRow ρ).val) + (if hiRow ρ then 0 else 1), by split <;> omega⟩
      (by show ρ.val = (256 * k.val + ρ.val) % 256; omega)
      (by show 2 * (128 * k.val + (byteRow ρ).val) + (if hiRow ρ then 0 else 1) = 256 * ((256 * k.val + ρ.val) / 256) + (srcCol ρ).val
          rw [hs]; omega)]
  have hg : (⟨64 * t.val + (⟨o.val / 4, by omega⟩ : Fin 64).val, by show 64 * t.val + o.val / 4 < 2752; omega⟩ : Fin 2752) = ⟨n.val / 4, by omega⟩ :=
    Fin.ext (by show 64 * t.val + o.val / 4 = n.val / 4; omega)
  have hB : (⟨4 * k.val + (blockRow ρ).val, by have := (blockRow ρ).isLt; omega⟩ : Fin 64) = ⟨(128 * k.val + (byteRow ρ).val) / 32, by omega⟩ :=
    Fin.ext (by show 4 * k.val + ρ.val / 64 = (128 * k.val + (32 * (ρ.val / 64) + 2 * (ρ.val % 16) + ρ.val / 16 % 2)) / 32; omega)
  rw [hg, hB]
  rfl

end Cert.KernelIdeal.Proof

end
-- ==== Proof.RefProduct.lean ====
/-
  The reference's product at an index: the same sum over the bytes of a weight row that the kernel's points compute.
-/
module

public import proofs.«01_k».proof.Proof.Gen.ReferenceIdeal.Run
public import proofs.«01_k».proof.Proof.Product
public import Idealize.ShloMosaic.Lib.Pointwise

@[expose] public section

set_option maxRecDepth 16384

noncomputable section

namespace Cert.ReferenceIdeal.Proof

open Cert.ReferenceIdeal Cert.ReferenceIdeal.Gen Cert.ReferenceIdeal.Value
open Idealize.ShloMosaic
open Cert.KernelIdeal.Proof (nib codeWord codeVal amVal xVal term yVal)

/-! ## The look-up -/

/-- A whole array of one 32-bit word. -/
def spread (c : BitVec 32) : IVec S11008x2048 32 := broadcastInDim S11008x2048 ![] bcast_S_S11008x2048 (constantI S_ 32 c)

/-- A whole array of one table entry. -/
def entry (c : BitVec 16) : FVec Ideal S11008x2048 .bf16 :=
  broadcastInDim S11008x2048 ![] bcast_S_S11008x2048 (constant (F := Ideal) S_ .bf16 c)

/-- Whether a bit of the code is set. -/
def bitOf (q : IVec S11008x2048 32) (c : BitVec 32) : IVec S11008x2048 1 := cmpi .ne (andi q (spread c)) (spread 0#32)

/-- The reference's look-up: a tree of selects over the code's four bits. -/
def tree (q : IVec S11008x2048 32) : FVec Ideal S11008x2048 .bf16 :=
  select (bitOf q 8#32)
    (select (bitOf q 4#32)
      (select (bitOf q 2#32) (select (bitOf q 1#32) (entry 0x3F80#16) (entry 0x3F39#16)) (select (bitOf q 1#32) (entry 0x3F10#16) (entry 0x3EE2#16)))
      (select (bitOf q 2#32) (select (bitOf q 1#32) (entry 0x3EAD#16) (entry 0x3E7C#16)) (select (bitOf q 1#32) (entry 0x3E25#16) (entry 0x3DA3#16))))
    (select (bitOf q 4#32)
      (select (bitOf q 2#32) (select (bitOf q 1#32) (entry 0x0000#16) (entry 0xBDBA#16)) (select (bitOf q 1#32) (entry 0xBE3D#16) (entry 0xBE92#16)))
      (select (bitOf q 2#32) (select (bitOf q 1#32) (entry 0xBECA#16) (entry 0xBF06#16)) (select (bitOf q 1#32) (entry 0xBF32#16) (entry 0xBF80#16))))

/-- Whether a bit of one code is set. -/
def isSet (q c : BitVec 32) : Prop := IntOp.cmpi .ne (IntOp.andi q c) 0#32 = 1#1

instance (q c : BitVec 32) : Decidable (isSet q c) := inferInstanceAs (Decidable (_ = _))

/-- The tree over the table's words. -/
def treeWord (q : BitVec 32) : BitVec 16 :=
  if isSet q 8#32 then
    if isSet q 4#32 then
      if isSet q 2#32 then (if isSet q 1#32 then 0x3F80#16 else 0x3F39#16) else (if isSet q 1#32 then 0x3F10#16 else 0x3EE2#16)
    else
      if isSet q 2#32 then (if isSet q 1#32 then 0x3EAD#16 else 0x3E7C#16) else (if isSet q 1#32 then 0x3E25#16 else 0x3DA3#16)
  else
    if isSet q 4#32 then
      if isSet q 2#32 then (if isSet q 1#32 then 0x0000#16 else 0xBDBA#16) else (if isSet q 1#32 then 0xBE3D#16 else 0xBE92#16)
    else
      if isSet q 2#32 then (if isSet q 1#32 then 0xBECA#16 else 0xBF06#16) else (if isSet q 1#32 then 0xBF32#16 else 0xBF80#16)

theorem bitOf_apply (q : IVec S11008x2048 32) (c : BitVec 32) (i : S11008x2048.Idx) :
    bitOf q c i = IntOp.cmpi .ne (IntOp.andi (q i) c) 0#32 := rfl

theorem select_at {c : IVec S11008x2048 32} {b : BitVec 32} {x y : FVec Ideal S11008x2048 .bf16} {i : S11008x2048.Idx} {u v : BitVec 16}
    (hx : x i = Ideal.ofBits .bf16 u) (hy : y i = Ideal.ofBits .bf16 v) :
    select (bitOf c b) x y i = Ideal.ofBits .bf16 (if isSet (c i) b then u else v) := by
  by_cases h : isSet (c i) b
  · rw [if_pos h, ← hx]; exact if_pos h
  · rw [if_neg h, ← hy]; exact if_neg h

/-- The tree at an index. -/
theorem tree_apply (q : IVec S11008x2048 32) (i : S11008x2048.Idx) : tree q i = Ideal.ofBits .bf16 (treeWord (q i)) := by
  unfold tree treeWord
  exact select_at
    (select_at (select_at (select_at rfl rfl) (select_at rfl rfl)) (select_at (select_at rfl rfl) (select_at rfl rfl)))
    (select_at (select_at (select_at rfl rfl) (select_at rfl rfl)) (select_at (select_at rfl rfl) (select_at rfl rfl)))

/-- The code of a byte as the reference takes it. -/
def codeOf : Bool → BitVec 8 → BitVec 32
  | true, b => IntOp.andi (IntOp.shrsi .host (b.setWidth 32) 4#32) 15#32
  | false, b => IntOp.andi (b.setWidth 32) 15#32

/-- The tree gives the kernel's table. -/
theorem treeWord_code (h : Bool) (b : BitVec 8) : treeWord (codeOf h b) = codeWord (nib h b) := by
  have key : ∀ (h : Bool) (k : Fin 256), treeWord (codeOf h (BitVec.ofNat 8 k.val)) = codeWord (nib h (BitVec.ofNat 8 k.val)) := by
    decide +kernel
  have := key h ⟨b.toNat, b.isLt⟩
  simpa using this

/-! ## The block scales -/

/-- A sign-extended byte's value. -/
theorem toInt_extsi (b : BitVec 8) : (b.signExtend 32).toInt = b.toInt := BitVec.toInt_signExtend_of_le (by decide)

/-- The block scales before they are laid out by weight row. -/
def scales (V0 : Valuation τ sig (Elt Ideal)) : S2752x256.Idx → EReal :=
  addf (F := Ideal) (φ := .f32) (mulf (F := Ideal) (φ := .f32)
    (sitofp (F := Ideal) .f32 (extsi 32 (shapeCast S2752x256 (V0 (Proc.devRef .tc main_arg2)) shapeCasts_S11008x64_S2752x256) natLt_8_32))
    (broadcastInDim S2752x256 ![0, 1] bcast_S2752x1_S2752x256_0_1 (broadcastInDim S2752x1 ![0] bcast_S2752_S2752x1_0 (V0 (Proc.devRef .tc main_arg3)))))
    (broadcastInDim S2752x256 ![] bcast_S_S2752x256 (V0 (Proc.devRef .tc main_arg4)))

theorem v9_eq (V0 : Valuation τ sig (Elt Ideal)) :
    (res_main_v9 (F := Ideal) V0 : S11008x64.Idx → EReal) = shapeCast S11008x64 (scales V0) shapeCasts_S2752x256_S11008x64 := rfl

theorem v9_apply (V0 : Valuation τ sig (Elt Ideal)) (n : Fin 11008) (b : Fin 64) :
    (res_main_v9 (F := Ideal) V0 : FVec Ideal S11008x64 .bf16) (ix2 n b)
      = amVal (V0 (Proc.devRef .tc main_arg2)) (V0 (Proc.devRef .tc main_arg3)) (V0 (Proc.devRef .tc main_arg4)) n b := by
  have hn := n.isLt
  have hb := b.isLt
  rw [v9_eq]
  refine (shapeCast_apply _ _ (ix2 n b) (ix2 (⟨n.val / 4, by omega⟩ : Fin 2752) (⟨n.val % 4 * 64 + b.val, by omega⟩ : Fin 256)) (by
    rw [rowMajor_val2 _ _ rfl, rowMajor_val2 _ _ rfl]
    show n.val / 4 * 256 + (n.val % 4 * 64 + b.val) = n.val * 64 + b.val
    omega)).trans ?_
  show (((((shapeCast S2752x256 (V0 (Proc.devRef .tc main_arg2)) shapeCasts_S11008x64_S2752x256
      (ix2 (⟨n.val / 4, by omega⟩ : Fin 2752) (⟨n.val % 4 * 64 + b.val, by omega⟩ : Fin 256)) : BitVec 8)).signExtend 32).toInt : ℝ) : EReal)
      * _ + _ = _
  rw [toInt_extsi, shapeCast_apply _ _ (ix2 (⟨n.val / 4, by omega⟩ : Fin 2752) (⟨n.val % 4 * 64 + b.val, by omega⟩ : Fin 256)) (ix2 n b) (by
    rw [rowMajor_val2 _ _ rfl, rowMajor_val2 _ _ rfl]
    show n.val * 64 + b.val = n.val / 4 * 256 + (n.val % 4 * 64 + b.val)
    omega)]
  unfold amVal
  congr 1
  · congr 1
    pointwise
  · pointwise

/-! ## The dequantised weight -/

/-- The dequantised weight of the codes `q`. -/
def weight (V0 : Valuation τ sig (Elt Ideal)) (q : IVec S11008x2048 32) : FVec Ideal S11008x2048 .bf16 :=
  shapeCast _ (mulf (shapeCast _ (tree q) shapeCasts_S11008x2048_S11008x64x32)
    (broadcastInDim S11008x64x32 ![0, 1, 2] bcast_S11008x64x1_S11008x64x32_0_1_2
      (broadcastInDim S11008x64x1 ![0, 1] bcast_S11008x64_S11008x64x1_0_1 (res_main_v9 (F := Ideal) V0)))) shapeCasts_S11008x64x32_S11008x2048

theorem weight_apply (V0 : Valuation τ sig (Elt Ideal)) (q : IVec S11008x2048 32) (n : Fin 11008) (k : Fin 2048) :
    weight V0 q (ix2 n k) = Ideal.ofBits .bf16 (treeWord (q (ix2 n k)))
      * amVal (V0 (Proc.devRef .tc main_arg2)) (V0 (Proc.devRef .tc main_arg3)) (V0 (Proc.devRef .tc main_arg4)) n ⟨k.val / 32, by omega⟩ := by
  have hk := k.isLt
  unfold weight
  refine (shapeCast_apply _ _ (ix2 n k) (ix3 n (⟨k.val / 32, by omega⟩ : Fin 64) (⟨k.val % 32, by omega⟩ : Fin 32)) (by
    rw [rowMajor_val2 _ _ rfl, rowMajor_val3 _ _ _ rfl rfl]
    show n.val * (64 * 32) + k.val / 32 * 32 + k.val % 32 = n.val * 2048 + k.val
    omega)).trans ?_
  refine congrArg₂ (fun a b : EReal => a * b) ?_ ?_
  · refine (shapeCast_apply _ _ _ (ix2 n k) (by
      rw [rowMajor_val2 _ _ rfl, rowMajor_val3 _ _ _ rfl rfl]
      show n.val * 2048 + k.val = n.val * (64 * 32) + k.val / 32 * 32 + k.val % 32
      omega)).trans (tree_apply q _)
  · rw [← v9_apply]
    pointwise

/-! ## The product -/

/-- The product of the elements of `x` that stand against one nibble with a weight. -/
theorem dot_apply (x : FVec Ideal S1x128x2048 .bf16) (w : FVec Ideal S11008x2048 .bf16) (a : Fin 128) (n : Fin 11008) :
    (Host.dotGeneral dot_S1x128x2048_S11008x2048_S1x128x11008_2_1_01_0_n_n none x w : FVec Ideal S1x128x11008 .f32) (ix3 0 a n)
      = ∑ k : Fin 2048, x (ix3 0 a k) * w (ix2 n k) := by
  pointwise

/-- The elements of `x` that the high nibbles stand against, and those of the low ones. -/
def xEven (V0 : Valuation τ sig (Elt Ideal)) : FVec Ideal S1x128x2048 .bf16 :=
  Host.slice S1x128x2048 ![0, 0, 0] ![1, 1, 2] (V0 (Proc.devRef .tc main_arg0)) slicesBy_S1x128x4096_S1x128x2048_0s1_0s1_0s2

@[inherit_doc xEven] def xOdd (V0 : Valuation τ sig (Elt Ideal)) : FVec Ideal S1x128x2048 .bf16 :=
  Host.slice S1x128x2048 ![0, 0, 1] ![1, 1, 2] (V0 (Proc.devRef .tc main_arg0)) slicesBy_S1x128x4096_S1x128x2048_0s1_0s1_1s2

/-- The two terms of the product. -/
theorem v93_eq (V0 : Valuation τ sig (Elt Ideal)) :
    (res_main_v93 (F := Ideal) V0 : FVec Ideal S1x128x11008 .f32)
      = addf (Host.dotGeneral dot_S1x128x2048_S11008x2048_S1x128x11008_2_1_01_0_n_n none (xEven V0)
            (weight V0 (res_main_v14 (F := Ideal) V0)))
          (Host.dotGeneral dot_S1x128x2048_S11008x2048_S1x128x11008_2_1_01_0_n_n none (xOdd V0)
            (weight V0 (res_main_v16 (F := Ideal) V0))) := rfl

/-- The reference's product at an index. -/
theorem v93_apply (V0 : Valuation τ sig (Elt Ideal)) (a : Fin 128) (n : Fin 11008) :
    (res_main_v93 (F := Ideal) V0 : FVec Ideal S1x128x11008 .f32) (ix3 0 a n)
      = yVal (V0 (Proc.devRef .tc main_arg0)) (V0 (Proc.devRef .tc main_arg1)) (V0 (Proc.devRef .tc main_arg2))
          (V0 (Proc.devRef .tc main_arg3)) (V0 (Proc.devRef .tc main_arg4)) a n := by
  rw [v93_eq]
  unfold yVal
  rw [Finset.sum_add_distrib]
  refine congrArg₂ (fun p q : EReal => p + q) ?_ ?_
  · rw [dot_apply]
    refine Finset.sum_congr rfl fun k _ => ?_
    rw [weight_apply]
    refine congrArg₂ (fun p q : EReal => p * q) ?_ (congrArg (fun p : EReal => p * _) (congrArg (Ideal.ofBits .bf16) (treeWord_code true _)))
    unfold xVal xEven
    pointwise
  · rw [dot_apply]
    refine Finset.sum_congr rfl fun k _ => ?_
    rw [weight_apply]
    refine congrArg₂ (fun p q : EReal => p * q) ?_ (congrArg (fun p : EReal => p * _) (congrArg (Ideal.ofBits .bf16) (treeWord_code false _)))
    unfold xVal xOdd
    pointwise
    exact congrArg (fun q => V0 (Proc.devRef .tc main_arg0) (ix3 0 a q)) (Fin.ext (Nat.add_comm _ _))

end Cert.ReferenceIdeal.Proof

end
-- ==== Proof.Scalars.lean ====
/-
  The quantiser's scalars over the reals. The kernel climbs a ladder of eight comparisons to the largest power of two
  not above a group's magnitude, and carries its inverse along; the reference takes the maximum over the table of all
  powers. Both give one scale, and multiplying by the kernel's inverse is dividing by that scale.
-/
module

public import Idealize.ShloMosaic.Lib.Pointwise

@[expose] public section

set_option maxRecDepth 16384

noncomputable section

namespace Cert.KernelIdeal.Proof

open Idealize.ShloMosaic

/-- A power of two. -/
def pw (n : ℤ) : EReal := (((2 : ℝ) ^ n : ℝ) : EReal)

theorem pw_mul (a b : ℤ) : pw a * pw b = pw (a + b) := by
  unfold pw; rw [← EReal.coe_mul, ← zpow_add₀ (by norm_num : (2 : ℝ) ≠ 0)]

theorem pw_mul_of (a b c : ℤ) (h : a + b = c) : pw a * pw b = pw c := by rw [pw_mul, h]

theorem pw_pos (a : ℤ) : 0 < pw a := by
  unfold pw; exact_mod_cast (zpow_pos (by norm_num : (0 : ℝ) < 2) a)

theorem pw_le {a b : ℤ} (h : a ≤ b) : pw a ≤ pw b := by
  unfold pw; exact_mod_cast zpow_le_zpow_right₀ (by norm_num : (1 : ℝ) ≤ 2) h

theorem pw_inv (a : ℤ) : (pw a)⁻¹ = pw (-a) := by
  unfold pw; rw [zpow_neg, EReal.coe_inv]

theorem pw_zero : pw 0 = 1 := by unfold pw; norm_num

/-- A normal f32 pattern with no significand bits is a power of two. -/
theorem f32_pow (n : Fin 254) : Ideal.ofBits .f32 (BitVec.ofNat 32 ((n.val + 1) * 8388608)) = pw ((n.val : ℤ) - 126) := by
  have h1 : ∀ n : Fin 254, ((BitVec.ofNat 32 ((n.val + 1) * 8388608)).extractLsb' 31 1 == 1#1) = false := by decide +kernel
  have h2 : ∀ n : Fin 254, ((BitVec.ofNat 32 ((n.val + 1) * 8388608)).extractLsb' 23 8).toNat = n.val + 1 := by decide +kernel
  have h3 : ∀ n : Fin 254, ((BitVec.ofNat 32 ((n.val + 1) * 8388608)).extractLsb' 0 23).toNat = 0 := by decide +kernel
  show Ideal.ieee 8 23 (BitVec.ofNat 32 ((n.val + 1) * 8388608)) = _
  unfold Ideal.ieee
  simp only [h2, h3]
  have h1' : ((BitVec.ofNat 32 ((n.val + 1) * 8388608)).extractLsb' (8 + 23) 1 == 1#1) = false := h1 n
  rw [h1']
  have hn := n.isLt
  rw [if_neg (by omega), if_neg (by omega)]
  unfold pw
  congr 1
  have : ((2 ^ 23 + 0 : Nat) : ℝ) = (2 : ℝ) ^ (23 : ℤ) := by norm_num
  rw [this]
  simp only [Bool.false_eq_true, if_false, one_mul]
  rw [← zpow_add₀ (by norm_num : (2 : ℝ) ≠ 0)]
  congr 1
  push_cast
  ring

theorem f32_pow_of (n : Fin 254) (b : BitVec 32) (k : ℤ) (h : b = BitVec.ofNat 32 ((n.val + 1) * 8388608)) (hk : (n.val : ℤ) - 126 = k) :
    Ideal.ofBits .f32 b = pw k := by subst h hk; exact f32_pow n

/-- The smallest factor is below the normal range. -/
theorem f32_half_tiny : Ideal.ofBits .f32 0x00400000#32 = pw (-127) := by
  show Ideal.ieee 8 23 0x00400000#32 = _
  have h1 : ((0x00400000#32).extractLsb' (8 + 23) 1 == 1#1) = false := by decide
  have h2 : ((0x00400000#32).extractLsb' 23 8).toNat = 0 := by decide
  have h3 : ((0x00400000#32).extractLsb' 0 23).toNat = 4194304 := by decide
  unfold Ideal.ieee
  simp only [h1, h2, h3]
  rw [if_pos trivial]
  unfold pw
  congr 1
  have : ((4194304 : Nat) : ℝ) = (2 : ℝ) ^ (22 : ℤ) := by norm_num
  rw [this]
  simp only [Bool.false_eq_true, if_false, one_mul]
  rw [← zpow_add₀ (by norm_num : (2 : ℝ) ≠ 0)]
  congr 1

open Classical in
/-- One rung on scalars. -/
def rungE (a : EReal) (s : EReal × EReal) (k : ℕ) : EReal × EReal :=
  if s.1 * pw k ≤ a then (s.1 * pw k, s.2 * pw (-k)) else s

/-- The rungs' exponents. -/
def climbs : List ℕ := [127, 63, 32, 16, 8, 4, 2, 1]

/-- The ladder on scalars. -/
def ladderE (a : EReal) : EReal × EReal := climbs.foldl (rungE a) (pw (-126), pw 126)

open Classical in
def scaleE (a : EReal) : EReal := if a < pw (-126) then 1 else (ladderE a).1 * pw 1

open Classical in
def invE (a : EReal) : EReal := if a < pw (-126) then 1 else (ladderE a).2 * pw (-1)

/-- What a state `n` rungs up with `S` still to climb is worth. -/
def At (a : EReal) (S : ℕ) (s : EReal × EReal) : Prop :=
  ∃ n : ℕ, s = (pw (n - 126), pw (126 - n)) ∧ pw (n - 126) ≤ a ∧ n + S ≤ 253 ∧ (n + S < 253 → a < pw ((n + S + 1 : ℕ) - 126))

theorem at_rung {a : EReal} {S k : ℕ} {s : EReal × EReal} (h : At a (S + k) s) (hk : k ≤ S + 1) : At a S (rungE a s k) := by
  obtain ⟨n, rfl, h1, h2, h3⟩ := h
  have e1 : pw ((n : ℤ) - 126) * pw k = pw (((n + k : ℕ) : ℤ) - 126) := pw_mul_of _ _ _ (by push_cast; ring)
  have e2 : pw (126 - (n : ℤ)) * pw (-k) = pw (126 - ((n + k : ℕ) : ℤ)) := pw_mul_of _ _ _ (by push_cast; ring)
  unfold rungE
  dsimp only
  rw [e1, e2]
  by_cases hc : pw (((n + k : ℕ) : ℤ) - 126) ≤ a
  · rw [if_pos hc]
    refine ⟨n + k, rfl, hc, by omega, fun h => ?_⟩
    have := h3 (by omega)
    rwa [show n + k + S + 1 = n + (S + k) + 1 by omega]
  · rw [if_neg hc]
    refine ⟨n, rfl, h1, by omega, fun h => lt_of_lt_of_le (not_le.1 hc) (pw_le ?_)⟩
    have : n + k ≤ n + S + 1 := by omega
    have : ((n + k : ℕ) : ℤ) ≤ ((n + S + 1 : ℕ) : ℤ) := by exact_mod_cast this
    omega

/-- The ladder's top: the largest power of two not above `a`, and its inverse. -/
theorem ladder_top {a : EReal} (h : pw (-126) ≤ a) :
    ∃ n : ℕ, ladderE a = (pw (n - 126), pw (126 - n)) ∧ pw (n - 126) ≤ a ∧ n ≤ 253 ∧ (n < 253 → a < pw ((n + 1 : ℕ) - 126)) := by
  have h0 : At a 253 (pw (-126), pw 126) := ⟨0, by norm_num, by simpa using h, by omega, fun h => by omega⟩
  have h1 := at_rung (S := 126) (k := 127) h0 (by omega)
  have h2 := at_rung (S := 63) (k := 63) h1 (by omega)
  have h3 := at_rung (S := 31) (k := 32) h2 (by omega)
  have h4 := at_rung (S := 15) (k := 16) h3 (by omega)
  have h5 := at_rung (S := 7) (k := 8) h4 (by omega)
  have h6 := at_rung (S := 3) (k := 4) h5 (by omega)
  have h7 := at_rung (S := 1) (k := 2) h6 (by omega)
  have h8 := at_rung (S := 0) (k := 1) h7 (by omega)
  exact h8

open Classical in
/-- The reference's table maximum. -/
def belowE (a : EReal) : EReal :=
  (Finset.univ : Finset (Fin 254)).fold max ⊥ fun i => if pw ((i.val : ℤ) - 126) ≤ a then pw ((i.val : ℤ) - 126) else 0

theorem below_tiny {a : EReal} (h : a < pw (-126)) : belowE a = 0 := by
  unfold belowE
  have e : (fun i : Fin 254 => (if pw ((i.val : ℤ) - 126) ≤ a then pw ((i.val : ℤ) - 126) else 0 : EReal)) = fun _ => 0 := by
    funext i
    rw [if_neg (not_le.2 (lt_of_lt_of_le h (pw_le (by omega))))]
  rw [e]
  apply le_antisymm
  · rw [Finset.fold_max_le]; exact ⟨bot_le, fun _ _ => le_refl _⟩
  · rw [Finset.le_fold_max]; exact Or.inr ⟨0, Finset.mem_univ _, le_refl _⟩

theorem below_eq {a : EReal} (h : pw (-126) ≤ a) : belowE a = (ladderE a).1 := by
  obtain ⟨n, hl, h1, h2, h3⟩ := ladder_top h
  rw [hl]
  unfold belowE
  apply le_antisymm
  · rw [Finset.fold_max_le]
    refine ⟨bot_le, fun i _ => ?_⟩
    split_ifs with hi
    · apply pw_le
      by_contra hlt
      have h4 : n < i.val := by omega
      have h5 := h3 (by have := i.isLt; omega)
      exact absurd hi (not_le.2 (lt_of_lt_of_le h5 (pw_le (by omega))))
    · exact (pw_pos _).le
  · rw [Finset.le_fold_max]
    refine Or.inr ⟨⟨n, by omega⟩, Finset.mem_univ _, ?_⟩
    rw [if_pos h1]

open Classical in
/-- One scale. -/
theorem scale_eq (a : EReal) : (if belowE a = 0 then 1 else pw 1 * belowE a) = scaleE a := by
  unfold scaleE
  by_cases h : a < pw (-126)
  · rw [if_pos h, if_pos (below_tiny h)]
  · rw [if_neg h, below_eq (not_lt.1 h)]
    obtain ⟨n, hl, -⟩ := ladder_top (not_lt.1 h)
    rw [hl, if_neg (pw_pos _).ne', mul_comm]

/-- Multiplying by the inverse is dividing by the scale. -/
theorem mul_inv_eq (y a : EReal) : y * invE a = Ideal.div y (scaleE a) := by
  unfold invE scaleE Ideal.div
  by_cases h : a < pw (-126)
  · rw [if_pos h, if_pos h, if_neg one_ne_zero, inv_one]
  · rw [if_neg h, if_neg h]
    obtain ⟨n, hl, -⟩ := ladder_top (not_lt.1 h)
    rw [hl]
    dsimp only
    rw [pw_mul, pw_mul, if_neg (pw_pos _).ne', pw_inv]
    congr 2
    ring

end Cert.KernelIdeal.Proof

end
-- ==== Proof.Quantise.lean ====
/-
  The kernel's quantiser at an index: a group's scale and its inverse are those of the group's largest magnitude over
  448, and its codes are its elements over the scale, kept within the format's range.
-/
module

public import proofs.«01_k».proof.Proof.Tile
public import proofs.«01_k».proof.Proof.Scalars
public import Idealize.ShloMosaic.Lib.Pointwise

@[expose] public section

set_option maxRecDepth 16384

noncomputable section

namespace Cert.KernelIdeal.Proof

open Cert.KernelIdeal Cert.KernelIdeal.Gen

open Idealize.ShloMosaic

/-- A group's largest magnitude over 448. -/
def magE (f : Fin 128 → EReal) : EReal :=
  (Finset.univ.fold max (Ideal.ofBits .f32 0xFF800000#32) fun l => max (f l) (-f l)) * Ideal.ofBits .f32 0x3B124925#32

theorem ymax_apply (y : FVec Ideal S128x128 .f32) (a l : Fin 128) : ymax y (ix2 a l) = magE fun k => y (ix2 a k) := by
  unfold magE
  pointwise [ymax]
  rfl

/-! ## The ladder -/

/-- A state of the ladder at an index. -/
def stateAt (s : FVec Ideal S128x128 .f32 × FVec Ideal S128x128 .f32) (j : S128x128.Idx) : EReal × EReal := (s.1 j, s.2 j)

theorem cmp_oge (x y : EReal) : Ideal.cmp .oge x y = 1#1 ↔ y ≤ x := by
  unfold Ideal.cmp
  by_cases h : y ≤ x <;> simp [h]

theorem rung_at (A : FVec Ideal S128x128 .f32) (s : FVec Ideal S128x128 .f32 × FVec Ideal S128x128 .f32) (ud : BitVec 32 × BitVec 32) (k : ℕ)
    (h : Ideal.ofBits .f32 ud.1 = pw k ∧ Ideal.ofBits .f32 ud.2 = pw (-k)) (j : S128x128.Idx) :
    stateAt (rung A s ud) j = rungE (A j) (stateAt s j) k := by
  unfold stateAt rungE
  rw [← h.1, ← h.2]
  by_cases hc : s.1 j * Ideal.ofBits .f32 ud.1 ≤ A j
  · rw [if_pos hc]
    exact congrArg₂ Prod.mk (if_pos ((cmp_oge _ _).2 hc)) (if_pos ((cmp_oge _ _).2 hc))
  · rw [if_neg hc]
    exact congrArg₂ Prod.mk (if_neg fun h => hc ((cmp_oge _ _).1 h)) (if_neg fun h => hc ((cmp_oge _ _).1 h))

theorem rungs_at (A : FVec Ideal S128x128 .f32) (j : S128x128.Idx) {us : List (BitVec 32 × BitVec 32)} {ks : List ℕ}
    (h : List.Forall₂ (fun ud k => Ideal.ofBits .f32 ud.1 = pw (k : ℕ) ∧ Ideal.ofBits .f32 ud.2 = pw (-(k : ℕ))) us ks) :
    ∀ s, stateAt (us.foldl (rung A) s) j = ks.foldl (rungE (A j)) (stateAt s j) := by
  induction h with
  | nil => exact fun _ => rfl
  | cons h _ ih => intro s; rw [List.foldl_cons, List.foldl_cons, ih, rung_at A s _ _ h]

theorem ladder_at (A : FVec Ideal S128x128 .f32) (j : S128x128.Idx) : stateAt (ladder A) j = ladderE (A j) := by
  unfold ladder ladderE
  rw [rungs_at A j (ks := climbs)]
  · congr 1
    exact congrArg₂ Prod.mk (f32_pow_of 0 _ _ rfl (by decide)) (f32_pow_of 252 _ _ rfl (by decide))
  · unfold rungs climbs
    refine .cons ⟨f32_pow_of 253 _ _ rfl (by decide), f32_half_tiny⟩ ?_
    refine .cons ⟨f32_pow_of 189 _ _ rfl (by decide), f32_pow_of 63 _ _ rfl (by decide)⟩ ?_
    refine .cons ⟨f32_pow_of 158 _ _ rfl (by decide), f32_pow_of 94 _ _ rfl (by decide)⟩ ?_
    refine .cons ⟨f32_pow_of 142 _ _ rfl (by decide), f32_pow_of 110 _ _ rfl (by decide)⟩ ?_
    refine .cons ⟨f32_pow_of 134 _ _ rfl (by decide), f32_pow_of 118 _ _ rfl (by decide)⟩ ?_
    refine .cons ⟨f32_pow_of 130 _ _ rfl (by decide), f32_pow_of 122 _ _ rfl (by decide)⟩ ?_
    refine .cons ⟨f32_pow_of 128 _ _ rfl (by decide), f32_pow_of 124 _ _ rfl (by decide)⟩ ?_
    refine .cons ⟨f32_pow_of 127 _ _ rfl (by decide), f32_pow_of 125 _ _ rfl (by decide)⟩ .nil

/-! ## The scale and the codes -/

theorem cmp_olt (x y : EReal) : Ideal.cmp .olt x y = 1#1 ↔ x < y := by
  unfold Ideal.cmp
  by_cases h : x < y <;> simp [h]

theorem tiny_iff (A : FVec Ideal S128x128 .f32) (j : S128x128.Idx) : tiny A j = 1#1 ↔ A j < pw (-126) := by
  rw [← f32_pow_of 0 0x00800000#32 (-126) rfl (by decide)]
  exact cmp_olt _ _

theorem one_eq : Ideal.ofBits .f32 0x3F800000#32 = 1 := Ideal.ofBits_one_f32

open Classical in
/-- One value where the magnitude is tiny, else the ladder's end times a power of two. -/
theorem pick (A L : FVec Ideal S128x128 .f32) (w v : BitVec 32) (j : S128x128.Idx) :
    select (tiny A) (broadcast S128x128 (Scalar.ofBits (F := Ideal) .f32 w)) (mulf L (broadcast S128x128 (Scalar.ofBits .f32 v))) j
      = if A j < pw (-126) then Ideal.ofBits .f32 w else L j * Ideal.ofBits .f32 v := by
  by_cases h : A j < pw (-126)
  · rw [if_pos h]; exact if_pos ((tiny_iff _ _).2 h)
  · rw [if_neg h]; exact if_neg fun e => h ((tiny_iff _ _).1 e)

theorem stateAt_fst (s : FVec Ideal S128x128 .f32 × FVec Ideal S128x128 .f32) (j : S128x128.Idx) : (stateAt s j).1 = s.1 j := rfl
theorem stateAt_snd (s : FVec Ideal S128x128 .f32 × FVec Ideal S128x128 .f32) (j : S128x128.Idx) : (stateAt s j).2 = s.2 j := rfl

theorem ladder_fst (A : FVec Ideal S128x128 .f32) (j : S128x128.Idx) : (ladder A).1 j = (ladderE (A j)).1 := by
  rw [← stateAt_fst, ladder_at]

theorem ladder_snd (A : FVec Ideal S128x128 .f32) (j : S128x128.Idx) : (ladder A).2 j = (ladderE (A j)).2 := by
  rw [← stateAt_snd, ladder_at]

theorem scaleOf_apply (y : FVec Ideal S128x128 .f32) (a l : Fin 128) : scaleOf y (ix2 a l) = scaleE (magE fun k => y (ix2 a k)) := by
  unfold scaleOf scaleE
  rw [pick, one_eq, ladder_fst, ymax_apply, f32_pow_of 127 0x40000000#32 1 rfl (by decide)]

theorem invOf_apply (y : FVec Ideal S128x128 .f32) (a l : Fin 128) : invOf y (ix2 a l) = invE (magE fun k => y (ix2 a k)) := by
  unfold invOf invE
  rw [pick, one_eq, ladder_snd, ymax_apply, f32_pow_of 125 0x3F000000#32 (-1) rfl (by decide)]

/-- The codes of a group whose inverse scales are `v`, before they are laid out. -/
theorem clip_at (y v : FVec Ideal S128x128 .f32) (j : S128x128.Idx) :
    (truncf .fp8e4m3 (minimumf (broadcast S128x128 (Scalar.ofBits .f32 0x43E00000#32))
      (maximumf (broadcast S128x128 (Scalar.ofBits .f32 0xC3E00000#32)) (mulf y v))) bitsLt_fp8e4m3_f32 : FVec Ideal S128x128 .fp8e4m3) j
      = min (Ideal.ofBits .f32 0x43E00000#32) (max (Ideal.ofBits .f32 0xC3E00000#32) (y j * v j)) := rfl

/-- The code of element `y` in a group of magnitude `A`. -/
def codeE (y A : EReal) : EReal :=
  min (Ideal.ofBits .f32 0x43E00000#32) (max (Ideal.ofBits .f32 0xC3E00000#32) (Ideal.div y (scaleE A)))

theorem codesOf_apply (y : FVec Ideal S128x128 .f32) (a l : Fin 128) :
    codesOf y (ix3 0 a l) = codeE (y (ix2 a l)) (magE fun k => y (ix2 a k)) := by
  unfold codesOf codeE
  refine (shapeCast_apply _ _ (ix3 0 a l) (ix2 a l) (by
    rw [rowMajor_val2 _ _ rfl, rowMajor_val3 _ _ _ rfl rfl]
    show a.val * 128 + l.val = 0 * (128 * 128) + a.val * 128 + l.val
    omega)).trans ?_
  rw [clip_at, invOf_apply, mul_inv_eq]

end Cert.KernelIdeal.Proof

end
-- ==== Proof.Results.lean ====
/-
  The kernel's two results as functions of its product: the codes and the scales of each row's groups of 128.
-/
module

public import proofs.«01_k».proof.Proof.Product
public import proofs.«01_k».proof.Proof.Quantise

@[expose] public section

set_option maxRecDepth 16384

noncomputable section

namespace Cert.KernelIdeal.Proof

open Cert.KernelIdeal Cert.KernelIdeal.Gen

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

/-! ## The results of a product -/

/-- The magnitude of group `g` of row `a`. -/
def rowMag (y : Fin 128 → Fin 11008 → EReal) (a : Fin 128) (g : Fin 86) : EReal := magE fun l => y a ⟨128 * g.val + l.val, by omega⟩

/-- The codes of a product. -/
def codesE (y : Fin 128 → Fin 11008 → EReal) : S1x128x11008.Idx → EReal := fun i =>
  codeE (y (i 1) (i 2)) (rowMag y (i 1) ⟨(i 2).val / 128, by have : (i 2).val < 11008 := (i 2).isLt; omega⟩)

/-- The scales of a product. -/
def scalesE (y : Fin 128 → Fin 11008 → EReal) : S1x128x86.Idx → EReal := fun i => scaleE (rowMag y (i 1) (i 2))

theorem scalesE_at (y : Fin 128 → Fin 11008 → EReal) (a : Fin 128) (g : Fin 86) : scalesE y (ix3 0 a g) = scaleE (rowMag y a g) := rfl

/-! ## A point's tile -/

theorem group0_apply (y : FVec Ideal S128x256 .f32) (a l : Fin 128) : group0 y (ix2 a l) = y (ix2 a (⟨l.val, by omega⟩ : Fin 256)) := by
  pointwise [group0]

theorem group1_apply (y : FVec Ideal S128x256 .f32) (a l : Fin 128) : group1 y (ix2 a l) = y (ix2 a (⟨128 + l.val, by omega⟩ : Fin 256)) := by
  pointwise [group1]

/-- A tile's code. -/
def tileCode (y : FVec Ideal S128x256 .f32) (a : Fin 128) (o : Fin 256) : EReal :=
  codeE (y (ix2 a o)) (magE fun l => y (ix2 a (⟨o.val / 128 * 128 + l.val, by omega⟩ : Fin 256)))

theorem code0 (y : FVec Ideal S128x256 .f32) (a l : Fin 128) (o : Fin 256) (ho : o.val = l.val) :
    codesOf (group0 y) (ix3 0 a l) = tileCode y a o := by
  have hl := l.isLt
  rw [codesOf_apply]
  unfold tileCode
  simp only [group0_apply]
  have e : (⟨l.val, by omega⟩ : Fin 256) = o := Fin.ext ho.symm
  have e2 : ∀ k : Fin 128, (⟨k.val, by omega⟩ : Fin 256) = ⟨o.val / 128 * 128 + k.val, by omega⟩ := fun k => Fin.ext (by show k.val = o.val / 128 * 128 + k.val; omega)
  simp only [e, e2]

theorem code1 (y : FVec Ideal S128x256 .f32) (a l : Fin 128) (o : Fin 256) (ho : o.val = 128 + l.val) :
    codesOf (group1 y) (ix3 0 a l) = tileCode y a o := by
  have hl := l.isLt
  rw [codesOf_apply]
  unfold tileCode
  simp only [group1_apply]
  have e : (⟨128 + l.val, by omega⟩ : Fin 256) = o := Fin.ext ho.symm
  have e2 : ∀ k : Fin 128, (⟨128 + k.val, by omega⟩ : Fin 256) = ⟨o.val / 128 * 128 + k.val, by omega⟩ := fun k => Fin.ext (by show 128 + k.val = o.val / 128 * 128 + k.val; omega)
  rw [e]
  congr 2
  funext k
  rw [e2]

theorem canon_codes (y : FVec Ideal S128x256 .f32) (a : Fin 128) (o : Fin 256) :
    (View.canon (codePieces y) : Vec Ideal S1x128x256 .fp8e4m3) (ix3 0 a o) = tileCode y a o := by
  refine (View.canon_apply_of_pieces (fun q : S1x128x256.Idx => (tileCode y (q 1) (q 2) : EReal)) (codePieces y) ?_ _
    (View.cover_of_tiled _ ![1, 128, 128] (by rfl) _)).trans rfl
  intro p hp
  rcases List.mem_cons.1 hp with rfl | hp
  · intro x
    obtain ⟨i, j, k, rfl⟩ : ∃ i j k, x = ix3 (n0 := 1) (n1 := 128) (n2 := 128) i j k := ⟨x 0, x 1, x 2, eq_ix3 x⟩
    obtain rfl : i = 0 := Subsingleton.elim _ _
    refine (code1 y j k ⟨128 + k.val, by omega⟩ rfl).trans ?_
    refine congrArg₂ (tileCode y) (Fin.ext ?_) (Fin.ext ?_)
    · show j.val = 0 + 1 * j.val; omega
    · show 128 + k.val = 128 + 1 * k.val; omega
  · rcases List.mem_singleton.1 hp with rfl
    intro x
    obtain ⟨i, j, k, rfl⟩ : ∃ i j k, x = ix3 (n0 := 1) (n1 := 128) (n2 := 128) i j k := ⟨x 0, x 1, x 2, eq_ix3 x⟩
    obtain rfl : i = 0 := Subsingleton.elim _ _
    refine (code0 y j k ⟨k.val, by omega⟩ rfl).trans ?_
    refine congrArg₂ (tileCode y) (Fin.ext ?_) (Fin.ext ?_)
    · show j.val = 0 + 1 * j.val; omega
    · show k.val = 0 + 1 * k.val; omega

/-! ## The arrays -/

variable (m : (ℓ : Loc nD τ sig) → Buf (Elt Ideal) ℓ) (c : Dev nD)

/-- The kernel's product. -/
def prodE : Fin 128 → Fin 11008 → EReal := yVal (argX m c) (argW m c) (argC m c) (argS m c) (argO m c)

theorem tileCode_yAt (t : Fin cfg0.N) (a : Fin 128) (o : Fin 256) (n : Fin 11008) (hn : n.val = 256 * t.val + o.val) :
    tileCode (yAt (F := Ideal) m c t) a o = codesE (prodE m c) (ix3 0 a n) := by
  have ht := lt_N t
  unfold tileCode
  show _ = codeE (prodE m c a n) (rowMag (prodE m c) a ⟨n.val / 128, _⟩)
  rw [yAt_apply m c t a o n hn]
  unfold rowMag
  congr 2
  funext l
  exact yAt_apply m c t a _ _ (by show 128 * (n.val / 128) + l.val = 256 * t.val + (o.val / 128 * 128 + l.val); omega)

/-- The array of codes after the run. -/
theorem arr7 : (dats (F := Ideal) m 0 c).arrAt 7 cfg0.N = codesE (prodE m c) := by
  refine (dats (F := Ideal) m 0 c).arrAt_eq_of_covers 7 _ (by decide +kernel) fun t hf y => ?_
  blk_simp
  rw [after0_7]
  obtain ⟨z, a, o, rfl⟩ : ∃ z a o, y = ix3 (n0 := 1) (n1 := 128) (n2 := 256) z a o := ⟨y 0, y 1, y 2, eq_ix3 y⟩
  obtain rfl : z = 0 := Subsingleton.elim _ _
  have ht := lt_N t
  have ho := o.isLt
  refine (canon_codes _ a o).trans ((tileCode_yAt m c t a o ⟨256 * t.val + o.val, by omega⟩ rfl).trans (congrArg (codesE (prodE m c)) ?_))
  blk_ext [index7]

theorem scalesAt_apply (a : Fin 128) (g : Fin 86) : scalesAt (F := Ideal) m c (ix2 a (⟨g.val, by omega⟩ : Fin 128)) = scaleE (rowMag (prodE m c) a g) := by
  have hg := g.isLt
  have hp : pointOf (⟨g.val, by omega⟩ : Fin 128) = ⟨g.val / 2, by show g.val / 2 < 43; omega⟩ := by
    unfold pointOf; rw [dif_pos (by show g.val / 2 < 43; omega)]
  show (if g.val % 2 = 0 then scaleOf (group0 (yAt (F := Ideal) m c (pointOf (⟨g.val, by omega⟩ : Fin 128)))) (ix2 a (⟨g.val, by omega⟩ : Fin 128))
    else scaleOf (group1 (yAt (F := Ideal) m c (pointOf (⟨g.val, by omega⟩ : Fin 128)))) (ix2 a (⟨g.val, by omega⟩ : Fin 128))) = _
  rw [hp]
  unfold rowMag
  split
  · rw [scaleOf_apply]
    congr 2
    funext l
    rw [group0_apply]
    exact yAt_apply m c _ a _ _ (by show 128 * g.val + l.val = 256 * (g.val / 2) + l.val; omega)
  · rw [scaleOf_apply]
    congr 2
    funext l
    rw [group1_apply]
    exact yAt_apply m c _ a _ _ (by show 128 * g.val + l.val = 256 * (g.val / 2) + (128 + l.val); omega)

theorem scalesOut_apply (s : Vec Ideal S128x128 .f32) (a : Fin 128) (g : Fin 86) :
    scalesOut (F := Ideal) s (ix3 0 a g) = s (ix2 a (⟨g.val, by omega⟩ : Fin 128)) := by
  have hg := g.isLt
  unfold scalesOut k0_pay2
  refine (shapeCast_apply _ shapeCasts_S128x86_S1x128x86 (ix3 0 a g) (ix2 a g) (by
    rw [rowMajor_val2 _ _ rfl, rowMajor_val3 _ _ _ rfl rfl]
    show a.val * 86 + g.val = 0 * (128 * 86) + a.val * 86 + g.val
    omega)).trans ?_
  refine View.ld_unit_apply_of s _ _ _ _ _ ?_
  intro d
  match d with
  | ⟨0, _⟩ => exact (Nat.zero_add _).symm
  | ⟨1, _⟩ => exact (Nat.zero_add _).symm

theorem index8 : ∀ t : Fin cfg0.N, win0_8.index t = ![0, 0, 0] := (by decide +kernel : ∀ t : Fin grid0.N, _)

/-- The array of scales after the run. -/
theorem arr8 : (dats (F := Ideal) m 0 c).arrAt 8 cfg0.N = scalesE (prodE m c) := by
  refine (dats (F := Ideal) m 0 c).arrAt_eq_of_covers 8 _ (by decide +kernel) fun t hf y => ?_
  blk_simp
  rw [after0_8]
  obtain ⟨z, a, g, rfl⟩ : ∃ z a g, y = ix3 (n0 := 1) (n1 := 128) (n2 := 86) z a g := ⟨y 0, y 1, y 2, eq_ix3 y⟩
  obtain rfl : z = 0 := Subsingleton.elim _ _
  have e : ix3 (n0 := 1) (n1 := 128) (n2 := 86) 0 a g = (win0_8.blk t).view.emb (ix3 (n0 := 1) (n1 := 128) (n2 := 86) 0 a g) := by
    blk_ext [index8]
  rw [← e, scalesE_at, scalesOut_apply, scalesAt_apply]

/-- The run of the kernel over the reals, with both results. -/
theorem run_results (ρ : Dev nD → PrngReg) :
    θ_run defs (onTc (τ := τ) (main (F := Ideal))) ⟨m, fun _ => 0, ρ⟩ (fun r => ∀ c : Dev nD,
      r.2.mem ((c.tc : Thread nD τ).loc main_v24_0) = codesE (prodE m c)
      ∧ r.2.mem ((c.tc : Thread nD τ).loc main_v24_1) = scalesE (prodE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 7).trans (arr7 m c), ((h c).1 8).trans (arr8 m c),
      ((h c).1 0).trans (((dats m 0 c).arrAt_in 0 rfl _).trans ((dats_A m c 0).trans (V_main_arg0 m c))),
      ((h c).1 1).trans (((dats m 0 c).arrAt_in 1 rfl _).trans ((dats_A m c 1).trans (V_main_arg1 m c))),
      ((h c).1 2).trans (((dats m 0 c).arrAt_in 2 rfl _).trans ((dats_A m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_exact m ρ)

end Cert.KernelIdeal.Proof

end
-- ==== Proof.RefQuantise.lean ====
/-
  The reference's quantiser at an index: the scale of a group is that of its largest magnitude over 448, and its codes
  are its elements over the scale, kept within the format's range.
-/
module

public import proofs.«01_k».proof.Proof.RefProduct
public import proofs.«01_k».proof.Proof.Quantise
public import proofs.«01_k».proof.Proof.Results

@[expose] public section

set_option maxRecDepth 16384

noncomputable section

namespace Cert.ReferenceIdeal.Proof

open Cert.ReferenceIdeal Cert.ReferenceIdeal.Gen Cert.ReferenceIdeal.Value
open Idealize.ShloMosaic
open Cert.KernelIdeal.Proof (pw belowE scaleE magE codeE f32_pow_of scale_eq one_eq yVal rowMag scalesE codesE)

/-! ## The table of powers -/

theorem cst_at (V0 : Valuation τ sig (Elt Ideal)) (i : Fin 254) :
    (res_main_cst (F := Ideal) V0 : FVec Ideal S254 .f32) (ix1 i) = pw ((i.val : ℤ) - 126) := by
  have e : ∀ i : Fin 254, lit0 i = BitVec.ofNat 32 ((i.val + 1) * 8388608) := by decide +kernel
  refine (congrArg (fun q => Ideal.ofBits .f32 (lit0 q)) (Fin.ext (rowMajor_val1 (ix1 i)))).trans ?_
  exact f32_pow_of i _ _ (e i) rfl

theorem bot_eq : Ideal.ofBits .f32 0xFF800000#32 = ⊥ := by
  show Ideal.ieee 8 23 0xFF800000#32 = ⊥
  have h1 : ((0xFF800000#32).extractLsb' (8 + 23) 1 == 1#1) = true := by decide
  have h2 : ((0xFF800000#32).extractLsb' 23 8).toNat = 255 := by decide
  have h3 : ((0xFF800000#32).extractLsb' 0 23).toNat = 0 := by decide
  unfold Ideal.ieee
  simp [h1, h2, h3]

/-! ## The largest power not above a magnitude -/

/-- The product, in groups. -/
def Y (V0 : Valuation τ sig (Elt Ideal)) : FVec Ideal S1x128x86x128 .f32 := res_main_v94 (F := Ideal) V0

/-- The magnitudes of a product's groups. -/
def mags (y : FVec Ideal S1x128x86x128 .f32) : FVec Ideal S1x128x86 .f32 :=
  mulf (Host.reduce FloatOps.maximumf (Host.absf y) (constant S_ .f32 0xFF800000#32) reducesTo_S1x128x86x128_S1x128x86_d3 h_S_)
    (broadcastInDim S1x128x86 ![] bcast_S_S1x128x86 (constant S_ .f32 0x3B124925#32))

theorem peak_apply (z : FVec Ideal S1x128x86x128 .f32) (a : Fin 128) (g : Fin 86) :
    (Host.reduce FloatOps.maximumf z (constant S_ .f32 0xFF800000#32) reducesTo_S1x128x86x128_S1x128x86_d3 h_S_ : FVec Ideal S1x128x86 .f32) (ix3 0 a g)
      = Finset.univ.fold max (Ideal.ofBits .f32 0xFF800000#32) fun l => z (ix4 0 a g l) := by
  pointwise

theorem scaled_at (z : FVec Ideal S1x128x86 .f32) (j : S1x128x86.Idx) :
    mulf z (broadcastInDim S1x128x86 ![] bcast_S_S1x128x86 (constant S_ .f32 0x3B124925#32)) j = z j * Ideal.ofBits .f32 0x3B124925#32 := rfl

theorem mags_apply (y : FVec Ideal S1x128x86x128 .f32) (a : Fin 128) (g : Fin 86) :
    mags y (ix3 0 a g) = magE fun l => y (ix4 0 a g l) := by
  unfold mags magE
  rw [scaled_at, peak_apply]
  rfl

/-- The largest power not above each of the magnitudes `A`, of a table `c`; 0 where there is none. -/
def below (c : FVec Ideal S254 .f32) (A : FVec Ideal S1x128x86 .f32) : FVec Ideal S1x128x86 .f32 :=
  Host.reduce FloatOps.maximumf (select (cmpf .ole (broadcastInDim S1x128x86x254 ![0, 1, 2, 3] bcast_S1x1x1x254_S1x128x86x254_0_1_2_3 (broadcastInDim S1x1x1x254 ![3] bcast_S254_S1x1x1x254_3 c))
      (broadcastInDim S1x128x86x254 ![0, 1, 2, 3] bcast_S1x128x86x1_S1x128x86x254_0_1_2_3 (broadcastInDim S1x128x86x1 ![0, 1, 2] bcast_S1x128x86_S1x128x86x1_0_1_2 A)))
    (broadcastInDim S1x128x86x254 ![3] bcast_S254_S1x128x86x254_3 c) (broadcastInDim S1x128x86x254 ![] bcast_S_S1x128x86x254 (id (constant S_ .f32 0x00000000#32))))
    (constant S_ .f32 0xFF800000#32) reducesTo_S1x128x86x254_S1x128x86_d3 h_S_

theorem v105_eq (V0 : Valuation τ sig (Elt Ideal)) :
    (res_main_v105 (F := Ideal) V0 : FVec Ideal S1x128x86 .f32) = below (res_main_cst (F := Ideal) V0) (mags (Y V0)) := by
  unfold res_main_v105 below mags Y
  rfl

theorem cmp_ole (x y : EReal) : Ideal.cmp .ole x y = 1#1 ↔ x ≤ y := by
  unfold Ideal.cmp
  by_cases h : x ≤ y <;> simp [h]

theorem below_apply (c : FVec Ideal S254 .f32) (hc : ∀ i : Fin 254, c (ix1 i) = pw ((i.val : ℤ) - 126)) (A : FVec Ideal S1x128x86 .f32)
    (a : Fin 128) (g : Fin 86) : below c A (ix3 0 a g) = belowE (A (ix3 0 a g)) := by
  unfold belowE
  rw [← bot_eq]
  pointwise [below]
  congr 1
  funext i
  rw [hc]
  refine congrArg (fun z : EReal => if pw ((i.val : ℤ) - 126) ≤ A (ix3 0 a g) then pw ((i.val : ℤ) - 126) else z) ?_
  exact Ideal.ofBits_zero_f32

/-! ## The scales -/

/-- The scales of groups whose powers are `B`. -/
def scalesOf (B : FVec Ideal S1x128x86 .f32) : FVec Ideal S1x128x86 .f32 :=
  select (cmpf .oeq B (broadcastInDim S1x128x86 ![] bcast_S_S1x128x86 (constant S_ .f32 0x00000000#32)))
    (broadcastInDim S1x128x86 ![] bcast_S_S1x128x86 (id (constant S_ .f32 0x3F800000#32)))
    (mulf (broadcastInDim S1x128x86 ![] bcast_S_S1x128x86 (constant S_ .f32 0x40000000#32)) B)

theorem cmp_oeq (x y : EReal) : Ideal.cmp .oeq x y = 1#1 ↔ x = y := by
  unfold Ideal.cmp
  by_cases h : x = y <;> simp [h]

theorem scalesOf_apply (B : FVec Ideal S1x128x86 .f32) (a : Fin 128) (g : Fin 86) (A : EReal) (h : B (ix3 0 a g) = belowE A) :
    scalesOf B (ix3 0 a g) = scaleE A := by
  rw [← scale_eq, ← h]
  show (if Ideal.cmp .oeq (B (ix3 0 a g)) (Ideal.ofBits .f32 0x00000000#32) = 1#1 then Ideal.ofBits .f32 0x3F800000#32
    else Ideal.ofBits .f32 0x40000000#32 * B (ix3 0 a g)) = _
  rw [Ideal.ofBits_zero_f32, one_eq, f32_pow_of 127 0x40000000#32 1 rfl (by decide)]
  by_cases h0 : B (ix3 0 a g) = 0
  · rw [if_pos h0, if_pos ((cmp_oeq _ _).2 h0)]
  · rw [if_neg h0, if_neg fun e => h0 ((cmp_oeq _ _).1 e)]

/-- The reference's scales. -/
theorem scales_apply (V0 : Valuation τ sig (Elt Ideal)) (a : Fin 128) (g : Fin 86) :
    scalesOf (res_main_v105 (F := Ideal) V0) (ix3 0 a g) = scaleE (magE fun l => Y V0 (ix4 0 a g l)) := by
  refine scalesOf_apply _ a g _ ?_
  rw [v105_eq, below_apply _ (cst_at V0), mags_apply]

/-! ## The codes -/

/-- The codes of a product over its groups' scales. -/
def codes (y : FVec Ideal S1x128x86x128 .f32) (s : FVec Ideal S1x128x86 .f32) : FVec Ideal S1x128x86x128 .fp8e4m3 :=
  Host.convertf .fp8e4m3 (minimumf (broadcastInDim S1x128x86x128 ![] bcast_S_S1x128x86x128 (id (constant S_ .f32 0x43E00000#32)))
    (maximumf (broadcastInDim S1x128x86x128 ![] bcast_S_S1x128x86x128 (id (constant S_ .f32 0xC3E00000#32)))
      (Host.divf y (broadcastInDim S1x128x86x128 ![0, 1, 2, 3] bcast_S1x128x86x1_S1x128x86x128_0_1_2_3
        (broadcastInDim S1x128x86x1 ![0, 1, 2] bcast_S1x128x86_S1x128x86x1_0_1_2 s)))))

theorem codes_apply (y : FVec Ideal S1x128x86x128 .f32) (s : FVec Ideal S1x128x86 .f32) (a : Fin 128) (g : Fin 86) (l : Fin 128) (A : EReal)
    (h : s (ix3 0 a g) = scaleE A) : codes y s (ix4 0 a g l) = codeE (y (ix4 0 a g l)) A := by
  unfold codeE
  rw [← h]
  pointwise [codes]
  rfl

/-! ## The results -/

/-- The reference's product. -/
def prodR (V0 : Valuation τ sig (Elt Ideal)) : Fin 128 → Fin 11008 → EReal :=
  yVal (V0 (Proc.devRef .tc main_arg0)) (V0 (Proc.devRef .tc main_arg1)) (V0 (Proc.devRef .tc main_arg2))
    (V0 (Proc.devRef .tc main_arg3)) (V0 (Proc.devRef .tc main_arg4))

theorem Y_apply (V0 : Valuation τ sig (Elt Ideal)) (a : Fin 128) (g : Fin 86) (l : Fin 128) (n : Fin 11008) (hn : n.val = 128 * g.val + l.val) :
    Y V0 (ix4 0 a g l) = prodR V0 a n := by
  unfold Y res_main_v94 prodR
  rw [← v93_apply]
  refine shapeCast_apply _ shapeCasts_S1x128x11008_S1x128x86x128 (ix4 0 a g l) (ix3 0 a n) ?_
  rw [rowMajor_val3 _ _ _ rfl rfl, rowMajor_val4 _ _ _ _ rfl rfl rfl]
  show 0 * (128 * 11008) + a.val * 11008 + n.val = 0 * (128 * (86 * 128)) + a.val * (86 * 128) + g.val * 128 + l.val
  omega

theorem mag_eq (V0 : Valuation τ sig (Elt Ideal)) (a : Fin 128) (g : Fin 86) :
    (magE fun l => Y V0 (ix4 0 a g l)) = rowMag (prodR V0) a g := by
  unfold rowMag
  congr 1
  funext l
  exact Y_apply V0 a g l _ rfl

/-- The reference's scales are those of its product. -/
theorem ref_scales (V0 : Valuation τ sig (Elt Ideal)) : scalesOf (res_main_v105 (F := Ideal) V0) = scalesE (prodR V0) := by
  funext i
  obtain ⟨z, a, g, rfl⟩ : ∃ z a g, i = ix3 (n0 := 1) (n1 := 128) (n2 := 86) z a g := ⟨i 0, i 1, i 2, eq_ix3 i⟩
  obtain rfl : z = 0 := Subsingleton.elim _ _
  rw [scales_apply, mag_eq]
  rfl

/-- The reference's codes are those of its product. -/
theorem ref_codes (V0 : Valuation τ sig (Elt Ideal)) :
    (shapeCast S1x128x11008 (codes (Y V0) (scalesOf (res_main_v105 (F := Ideal) V0))) shapeCasts_S1x128x86x128_S1x128x11008 : S1x128x11008.Idx → EReal)
      = codesE (prodR V0) := by
  funext i
  obtain ⟨z, a, n, rfl⟩ : ∃ z a n, i = ix3 (n0 := 1) (n1 := 128) (n2 := 11008) z a n := ⟨i 0, i 1, i 2, eq_ix3 i⟩
  obtain rfl : z = 0 := Subsingleton.elim _ _
  have hn := n.isLt
  refine (shapeCast_apply _ shapeCasts_S1x128x86x128_S1x128x11008 (ix3 0 a n)
    (ix4 0 a (⟨n.val / 128, by omega⟩ : Fin 86) (⟨n.val % 128, by omega⟩ : Fin 128)) (by
    rw [rowMajor_val3 _ _ _ rfl rfl, rowMajor_val4 _ _ _ _ rfl rfl rfl]
    show 0 * (128 * (86 * 128)) + a.val * (86 * 128) + n.val / 128 * 128 + n.val % 128 = 0 * (128 * 11008) + a.val * 11008 + n.val
    omega)).trans ?_
  rw [codes_apply _ _ _ _ _ _ (scales_apply V0 a _), mag_eq,
    Y_apply V0 a _ _ n (by show n.val = 128 * (n.val / 128) + n.val % 128; omega)]
  rfl

end Cert.ReferenceIdeal.Proof

end
-- ==== Proof.RefValue.lean ====
/-
  The reference's run with both results as functions of its product.
-/
module

public import proofs.«01_k».proof.Proof.RefQuantise

@[expose] public section

set_option maxRecDepth 16384

noncomputable section

namespace Cert.ReferenceIdeal.Proof

open Cert.ReferenceIdeal Cert.ReferenceIdeal.Gen Cert.ReferenceIdeal.Value
open Idealize.ShloMosaic Idealize.ShloMosaic.StableHlo Idealize.SL.Sem
open Cert.KernelIdeal.Proof (scalesE codesE)

variable (m : (ℓ : Loc nD τ sig) → Buf (Elt Ideal) ℓ)

/-- The run of the reference over the reals, with both results. -/
theorem run_results (ρ : Dev nD → PrngReg) :
    θ_run defs (onTc (τ := τ) (main (F := Ideal))) ⟨m, fun _ => 0, ρ⟩ fun r => ∀ c : Dev nD,
      r.2.mem ((c.tc : Thread nD τ).loc main_v116) = codesE (prodR (launchContents m c))
      ∧ r.2.mem ((c.tc : Thread nD τ).loc main_v110) = scalesE (prodR (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (ref_codes (launchContents m c)), (h c).2.1.trans (ref_scales (launchContents m c)), (h c).2.2⟩)
    (run (F := Ideal) m ρ)

end Cert.ReferenceIdeal.Proof

end
-- ==== Proof.lean ====
/-
  The claim: the frames of the kernel over bits, of its idealization and of the reference's idealization, that the
  idealization preserves the kernel, and that over the reals the kernel's results are the reference's.
-/
module

public import proofs.«01_k».proof.Defs
public import proofs.«01_k».proof.Proof.KernelFrame
public import proofs.«01_k».proof.Proof.IdealFrame
public import proofs.«01_k».proof.Proof.RefValue
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem

/-- The frame of the kernel. -/
theorem frame_kernel : Cert.quiescent_Kernel (hKernel := Cert.Kernel.Gen.facts) := fun m ρ _ =>
  Cert.Kernel.Proof.frame (F := Bits) m ρ

/-- The frame of the idealized kernel. -/
theorem frame_ideal : Cert.quiescent_KernelIdeal (hKernelIdeal := Cert.KernelIdeal.Gen.facts) := fun m ρ _ =>
  Cert.KernelIdeal.Proof.frame_run (F := Ideal) m ρ

/-- The frame of the reference: its run keeps the arguments, and it declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Each rule the idealization applied is true where it was applied. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

/-- Over the reals the kernel and the reference end with the same codes and the same scales. -/
theorem algebraic : Cert.algebraic_KernelIdeal_ReferenceIdeal (hKernelIdeal := Cert.KernelIdeal.Gen.facts) (hReferenceIdeal := Cert.ReferenceIdeal.Gen.facts) := by
  intro m g m' g' _ hm
  have hp : ∀ c, Cert.ReferenceIdeal.Proof.prodR (StableHlo.launchContents m' c) = Cert.KernelIdeal.Proof.prodE m c := fun c => by
    obtain ⟨h0, h1, h2, h3, h4⟩ := hm c
    unfold Cert.ReferenceIdeal.Proof.prodR Cert.KernelIdeal.Proof.prodE
    congr 1
  refine ⟨fun c => Cert.KernelIdeal.Proof.codesE (Cert.KernelIdeal.Proof.prodE m c), fun c => Cert.KernelIdeal.Proof.scalesE (Cert.KernelIdeal.Proof.prodE m c),
    Cert.KernelIdeal.Proof.run_results m g, (θ_run Cert.ReferenceIdeal.defs _ _).mono (fun r h c => ?_) (Cert.ReferenceIdeal.Proof.run_results m' g')⟩
  obtain ⟨e0, e1, e2⟩ := h c
  exact ⟨e0.trans (congrArg Cert.KernelIdeal.Proof.codesE (hp c)), e1.trans (congrArg Cert.KernelIdeal.Proof.scalesE (hp c)), e2⟩

theorem claim : Cert.Claim :=
  ⟨Cert.Kernel.Gen.facts, Cert.KernelIdeal.Gen.facts, Cert.ReferenceIdeal.Gen.facts, frame_kernel, frame_ideal,
    frame_reference, preserves, algebraic⟩

end Cert.Proof

end
